-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x39924925#32 ((1 / 3584 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x3584 : Shape := ⟨3, ![3, 512, 3584]⟩
abbrev S3x512x28 : Shape := ⟨3, ![3, 512, 28]⟩
abbrev S3x512 : Shape := ⟨2, ![3, 512]⟩
abbrev S3584 : Shape := ⟨1, ![3584]⟩
abbrev S3584x4608 : Shape := ⟨2, ![3584, 4608]⟩
abbrev S4608 : Shape := ⟨1, ![4608]⟩
abbrev S3x512x4608 : Shape := ⟨3, ![3, 512, 4608]⟩
abbrev S1536x3584 : Shape := ⟨2, ![1536, 3584]⟩
abbrev S1536x28 : Shape := ⟨2, ![1536, 28]⟩
abbrev S1536x1 : Shape := ⟨2, ![1536, 1]⟩
abbrev S1x3584 : Shape := ⟨2, ![1, 3584]⟩
abbrev S1x4608 : Shape := ⟨2, ![1, 4608]⟩
abbrev S1536x4608 : Shape := ⟨2, ![1536, 4608]⟩
abbrev S256x4608 : Shape := ⟨2, ![256, 4608]⟩
abbrev S1536x256 : Shape := ⟨2, ![1536, 256]⟩
abbrev S256x2304 : Shape := ⟨2, ![256, 2304]⟩
abbrev S1536x128 : Shape := ⟨2, ![1536, 128]⟩
abbrev S1536 : Shape := ⟨1, ![1536]⟩
abbrev S256 : Shape := ⟨1, ![256]⟩
abbrev S1x256 : Shape := ⟨2, ![1, 256]⟩
abbrev S1536x2304 : Shape := ⟨2, ![1536, 2304]⟩

abbrev nBuf : Space → Nat
  | .hbm => 16
  | .vmem => 17
  | .smem => 0
  | _ => 0

abbrev bufTy : (tb : Table) → Fin (tcTables nBuf tb) → BufTy
  | .hbm, ⟨0, _⟩ => ⟨S3x512x3584, .fp8e4m3⟩
  | .hbm, ⟨1, _⟩ => ⟨S3x512x28, .f32⟩
  | .hbm, ⟨2, _⟩ => ⟨S3x512, .f32⟩
  | .hbm, ⟨3, _⟩ => ⟨S3584, .f32⟩
  | .hbm, ⟨4, _⟩ => ⟨S3584x4608, .fp8e4m3⟩
  | .hbm, ⟨5, _⟩ => ⟨S4608, .f32⟩
  | .hbm, ⟨6, _⟩ => ⟨S3x512x4608, .bf16⟩
  | .hbm, ⟨7, _⟩ => ⟨S1536x3584, .fp8e4m3⟩
  | .hbm, ⟨8, _⟩ => ⟨S1536x28, .f32⟩
  | .hbm, ⟨9, _⟩ => ⟨S1536x1, .f32⟩
  | .hbm, ⟨10, _⟩ => ⟨S1x3584, .f32⟩
  | .hbm, ⟨11, _⟩ => ⟨S1x4608, .f32⟩
  | .hbm, ⟨12, _⟩ => ⟨S1536x4608, .bf16⟩
  | .hbm, ⟨13, _⟩ => ⟨S1536x3584, .bf16⟩
  | .hbm, ⟨14, _⟩ => ⟨S3584x4608, .f32⟩
  | .hbm, ⟨15, _⟩ => ⟨S1x3584, .f32⟩
  | .local _ .vmem, ⟨0, _⟩ => ⟨S1536x3584, .fp8e4m3⟩
  | .local _ .vmem, ⟨1, _⟩ => ⟨S1536x28, .f32⟩
  | .local _ .vmem, ⟨2, _⟩ => ⟨S1536x1, .f32⟩
  | .local _ .vmem, ⟨3, _⟩ => ⟨S1x3584, .f32⟩
  | .local _ .vmem, ⟨4, _⟩ => ⟨S256x4608, .fp8e4m3⟩
  | .local _ .vmem, ⟨5, _⟩ => ⟨S256x4608, .fp8e4m3⟩
  | .local _ .vmem, ⟨6, _⟩ => ⟨S1x4608, .f32⟩
  | .local _ .vmem, ⟨7, _⟩ => ⟨S1536x4608, .bf16⟩
  | .local _ .vmem, ⟨8, _⟩ => ⟨S1536x256, .bf16⟩
  | .local _ .vmem, ⟨9, _⟩ => ⟨S1536x256, .bf16⟩
  | .local _ .vmem, ⟨10, _⟩ => ⟨S256x2304, .f32⟩
  | .local _ .vmem, ⟨11, _⟩ => ⟨S256x2304, .f32⟩
  | .local _ .vmem, ⟨12, _⟩ => ⟨S1x3584, .f32⟩
  | .local _ .vmem, ⟨13, _⟩ => ⟨S1536x3584, .f32⟩
  | .local _ .vmem, ⟨14, _⟩ => ⟨S1536x28, .f32⟩
  | .local _ .vmem, ⟨15, _⟩ => ⟨S1536x128, .f32⟩
  | .local _ .vmem, ⟨16, _⟩ => ⟨S1536x256, .bf16⟩
  | _, _ => ⟨S3x512x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![42], ![false]⟩

def k0_cond2 (i : grid0.Coords) : BitVec 1 :=
  let arg0 : BitVec 32 := BitVec.ofNat 32 (i 0).val
  let c14_i32 : BitVec 32 := 14#32
  let v3 : BitVec 1 := Scalar.cmpi .slt arg0 c14_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c256_i32 : BitVec 32 := 256#32
  let v28 : BitVec 32 := Scalar.muli arg0 c256_i32
  v28
def k0_off1 (i : grid0.Coords) : Fin 2 → Nat :=
  let c0 : Index := 0#32
  let arg0 : BitVec 32 := BitVec.ofNat 32 (i 0).val
  let c256_i32 : BitVec 32 := 256#32
  let v28 : BitVec 32 := Scalar.muli arg0 c256_i32
  let v29 : BitVec 32 := v28
  let v30 : Index := Scalar.indexCast v29
  ![0, v30.toNat]
def k0_off2 (i : grid0.Coords) : Fin 2 → Nat :=
  let c0_33 : Index := 0#32
  let arg0 : BitVec 32 := BitVec.ofNat 32 (i 0).val
  let c256_i32 : BitVec 32 := 256#32
  let v28 : BitVec 32 := Scalar.muli arg0 c256_i32
  let v29 : BitVec 32 := v28
  let v73 : Index := Scalar.indexCast v29
  ![0, v73.toNat]
def k0_cond4 (i : grid0.Coords) : BitVec 1 :=
  let arg0 : BitVec 32 := BitVec.ofNat 32 (i 0).val
  let c14_i32_4 : BitVec 32 := 14#32
  let v9 : BitVec 1 := Scalar.cmpi .sge arg0 c14_i32_4
  let c14_i32_5 : BitVec 32 := 14#32
  let v10 : BitVec 32 := Scalar.subi arg0 c14_i32_5
  let c2_i32 : BitVec 32 := 2#32
  let c0_i32_6 : BitVec 32 := 0#32
  let v11 : BitVec 1 := Scalar.cmpi .eq c2_i32 c0_i32_6
  let c1_i32 : BitVec 32 := 1#32
  let v12 : BitVec 32 := Scalar.select v11 c1_i32 c2_i32
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_10 : BitVec 32 := 0#32
  let v21 : BitVec 1 := Scalar.cmpi .eq v20 c0_i32_10
  let v22 : BitVec 1 := Scalar.andi v9 v21
  let v23 : BitVec 32 := Scalar.extui v22
  let c0_i32_11 : BitVec 32 := 0#32
  let v24 : BitVec 1 := Scalar.cmpi .ne v23 c0_i32_11
  v24

def k0_mult2 (i : grid0.Coords) : BitVec 32 :=
  let arg0 : BitVec 32 := BitVec.ofNat 32 (i 0).val
  let c14_i32_14 : BitVec 32 := 14#32
  let v28 : BitVec 32 := Scalar.subi arg0 c14_i32_14
  let c0_i32_16 : BitVec 32 := 0#32
  let v30 : BitVec 1 := Scalar.cmpi .sgt v28 c0_i32_16
  let v31 : BitVec 32 := Scalar.extui v30
  let c0_i32_17 : BitVec 32 := 0#32
  let v32 : BitVec 1 := Scalar.cmpi .slt v28 c0_i32_17
  let v33 : BitVec 32 := Scalar.extui v32
  let v34 : BitVec 32 := Scalar.subi v31 v33
  let c2_i32_15 : BitVec 32 := 2#32
  let c0_i32_18 : BitVec 32 := 0#32
  let v35 : BitVec 1 := Scalar.cmpi .sgt c2_i32_15 c0_i32_18
  let v36 : BitVec 32 := Scalar.extui v35
  let c0_i32_19 : BitVec 32 := 0#32
  let v37 : BitVec 1 := Scalar.cmpi .slt c2_i32_15 c0_i32_19
  let v38 : BitVec 32 := Scalar.extui v37
  let v39 : BitVec 32 := Scalar.subi v36 v38
  let v40 : BitVec 1 := Scalar.cmpi .ne v34 v39
  let v41 : BitVec 32 := Scalar.remsi v28 c2_i32_15
  let c0_i32_20 : BitVec 32 := 0#32
  let v42 : BitVec 1 := Scalar.cmpi .ne v41 c0_i32_20
  let v43 : BitVec 1 := Scalar.andi v40 v42
  let v29 : BitVec 32 := Scalar.divsi v28 c2_i32_15
  let c1_i32_21 : BitVec 32 := 1#32
  let v44 : BitVec 32 := Scalar.subi v29 c1_i32_21
  let v45 : BitVec 32 := Scalar.select v43 v44 v29
  let c256_i32 : BitVec 32 := 256#32
  let v46 : BitVec 32 := Scalar.muli v45 c256_i32
  v46
def k0_off3 (i : grid0.Coords) : Fin 2 → Nat :=
  let c0 : Index := 0#32
  let arg0 : BitVec 32 := BitVec.ofNat 32 (i 0).val
  let c14_i32_14 : BitVec 32 := 14#32
  let v28 : BitVec 32 := Scalar.subi arg0 c14_i32_14
  let c0_i32_16 : BitVec 32 := 0#32
  let v30 : BitVec 1 := Scalar.cmpi .sgt v28 c0_i32_16
  let v31 : BitVec 32 := Scalar.extui v30
  let c0_i32_17 : BitVec 32 := 0#32
  let v32 : BitVec 1 := Scalar.cmpi .slt v28 c0_i32_17
  let v33 : BitVec 32 := Scalar.extui v32
  let v34 : BitVec 32 := Scalar.subi v31 v33
  let c2_i32_15 : BitVec 32 := 2#32
  let c0_i32_18 : BitVec 32 := 0#32
  let v35 : BitVec 1 := Scalar.cmpi .sgt c2_i32_15 c0_i32_18
  let v36 : BitVec 32 := Scalar.extui v35
  let c0_i32_19 : BitVec 32 := 0#32
  let v37 : BitVec 1 := Scalar.cmpi .slt c2_i32_15 c0_i32_19
  let v38 : BitVec 32 := Scalar.extui v37
  let v39 : BitVec 32 := Scalar.subi v36 v38
  let v40 : BitVec 1 := Scalar.cmpi .ne v34 v39
  let v41 : BitVec 32 := Scalar.remsi v28 c2_i32_15
  let c0_i32_20 : BitVec 32 := 0#32
  let v42 : BitVec 1 := Scalar.cmpi .ne v41 c0_i32_20
  let v43 : BitVec 1 := Scalar.andi v40 v42
  let v29 : BitVec 32 := Scalar.divsi v28 c2_i32_15
  let c1_i32_21 : BitVec 32 := 1#32
  let v44 : BitVec 32 := Scalar.subi v29 c1_i32_21
  let v45 : BitVec 32 := Scalar.select v43 v44 v29
  let c256_i32 : BitVec 32 := 256#32
  let v46 : BitVec 32 := Scalar.muli v45 c256_i32
  let v47 : BitVec 32 := v46
  let v48 : Index := Scalar.indexCast v47
  ![0, v48.toNat]
def k0_off4 (i : grid0.Coords) : Fin 2 → Nat :=
  let c0_33 : Index := 0#32
  let arg0 : BitVec 32 := BitVec.ofNat 32 (i 0).val
  let c14_i32_14 : BitVec 32 := 14#32
  let v28 : BitVec 32 := Scalar.subi arg0 c14_i32_14
  let c0_i32_16 : BitVec 32 := 0#32
  let v30 : BitVec 1 := Scalar.cmpi .sgt v28 c0_i32_16
  let v31 : BitVec 32 := Scalar.extui v30
  let c0_i32_17 : BitVec 32 := 0#32
  let v32 : BitVec 1 := Scalar.cmpi .slt v28 c0_i32_17
  let v33 : BitVec 32 := Scalar.extui v32
  let v34 : BitVec 32 := Scalar.subi v31 v33
  let c2_i32_15 : BitVec 32 := 2#32
  let c0_i32_18 : BitVec 32 := 0#32
  let v35 : BitVec 1 := Scalar.cmpi .sgt c2_i32_15 c0_i32_18
  let v36 : BitVec 32 := Scalar.extui v35
  let c0_i32_19 : BitVec 32 := 0#32
  let v37 : BitVec 1 := Scalar.cmpi .slt c2_i32_15 c0_i32_19
  let v38 : BitVec 32 := Scalar.extui v37
  let v39 : BitVec 32 := Scalar.subi v36 v38
  let v40 : BitVec 1 := Scalar.cmpi .ne v34 v39
  let v41 : BitVec 32 := Scalar.remsi v28 c2_i32_15
  let c0_i32_20 : BitVec 32 := 0#32
  let v42 : BitVec 1 := Scalar.cmpi .ne v41 c0_i32_20
  let v43 : BitVec 1 := Scalar.andi v40 v42
  let v29 : BitVec 32 := Scalar.divsi v28 c2_i32_15
  let c1_i32_21 : BitVec 32 := 1#32
  let v44 : BitVec 32 := Scalar.subi v29 c1_i32_21
  let v45 : BitVec 32 := Scalar.select v43 v44 v29
  let c256_i32 : BitVec 32 := 256#32
  let v46 : BitVec 32 := Scalar.muli v45 c256_i32
  let v47 : BitVec 32 := v46
  let v78 : Index := Scalar.indexCast v47
  ![0, v78.toNat]
def k0_cond5 (i : grid0.Coords) : BitVec 1 :=
  let arg0 : BitVec 32 := BitVec.ofNat 32 (i 0).val
  let c14_i32_12 : BitVec 32 := 14#32
  let v25 : BitVec 1 := Scalar.cmpi .sge arg0 c14_i32_12
  let v26 : BitVec 32 := Scalar.extui v25
  let c0_i32_13 : BitVec 32 := 0#32
  let v27 : BitVec 1 := Scalar.cmpi .ne v26 c0_i32_13
  v27

def k0_mult3 (i : grid0.Coords) : BitVec 32 :=
  let arg0 : BitVec 32 := BitVec.ofNat 32 (i 0).val
  let c14_i32_14 : BitVec 32 := 14#32
  let v28 : BitVec 32 := Scalar.subi arg0 c14_i32_14
  let c2_i32_15 : BitVec 32 := 2#32
  let c0_i32_16 : BitVec 32 := 0#32
  let v29 : BitVec 1 := Scalar.cmpi .eq c2_i32_15 c0_i32_16
  let c1_i32_17 : BitVec 32 := 1#32
  let v30 : BitVec 32 := Scalar.select v29 c1_i32_17 c2_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c2304_i32 : BitVec 32 := 2304#32
  let v39 : BitVec 32 := Scalar.muli v38 c2304_i32
  v39
def k0_off5 (i : grid0.Coords) : Fin 2 → Nat :=
  let c0_22 : Index := 0#32
  let arg0 : BitVec 32 := BitVec.ofNat 32 (i 0).val
  let c14_i32_14 : BitVec 32 := 14#32
  let v28 : BitVec 32 := Scalar.subi arg0 c14_i32_14
  let c2_i32_15 : BitVec 32 := 2#32
  let c0_i32_16 : BitVec 32 := 0#32
  let v29 : BitVec 1 := Scalar.cmpi .eq c2_i32_15 c0_i32_16
  let c1_i32_17 : BitVec 32 := 1#32
  let v30 : BitVec 32 := Scalar.select v29 c1_i32_17 c2_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c2304_i32 : BitVec 32 := 2304#32
  let v39 : BitVec 32 := Scalar.muli v38 c2304_i32
  let v40 : BitVec 32 := v39
  let v42 : Index := Scalar.indexCast v40
  ![0, v42.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  ![c0_i32_5.toNat, v18.toNat]

def cc0_transform_8 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4608 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_d" => some ((1 / 3584 : ℝ) : EReal)
  | _ => none
-- ==== ReferenceIdeal.lean ====
abbrev S3x512x3584 : Shape := ⟨3, ![3, 512, 3584]⟩
abbrev S3x512x28 : Shape := ⟨3, ![3, 512, 28]⟩
abbrev S3x512 : Shape := ⟨2, ![3, 512]⟩
abbrev S3584 : Shape := ⟨1, ![3584]⟩
abbrev S3584x4608 : Shape := ⟨2, ![3584, 4608]⟩
abbrev S4608 : Shape := ⟨1, ![4608]⟩
abbrev S3x512x4608 : Shape := ⟨3, ![3, 512, 4608]⟩
abbrev S3x512x28x128 : Shape := ⟨4, ![3, 512, 28, 128]⟩
abbrev S1536x3584 : Shape := ⟨2, ![1536, 3584]⟩
abbrev S1536x1 : Shape := ⟨2, ![1536, 1]⟩
abbrev S1x3584 : Shape := ⟨2, ![1, 3584]⟩
abbrev S1x4608 : Shape := ⟨2, ![1, 4608]⟩
abbrev S1536x4608 : Shape := ⟨2, ![1536, 4608]⟩
abbrev S1536 : Shape := ⟨1, ![1536]⟩

abbrev nBuf : Space → Nat
  | .hbm => 18
  | .vmem => 10
  | .smem => 0
  | _ => 0

abbrev bufTy : (tb : Table) → Fin (tcTables nBuf tb) → BufTy
  | .hbm, ⟨0, _⟩ => ⟨S3x512x3584, .fp8e4m3⟩
  | .hbm, ⟨1, _⟩ => ⟨S3x512x28, .f32⟩
  | .hbm, ⟨2, _⟩ => ⟨S3x512, .f32⟩
  | .hbm, ⟨3, _⟩ => ⟨S3584, .f32⟩
  | .hbm, ⟨4, _⟩ => ⟨S3584x4608, .fp8e4m3⟩
  | .hbm, ⟨5, _⟩ => ⟨S4608, .f32⟩
  | .hbm, ⟨6, _⟩ => ⟨S3x512x4608, .bf16⟩
  | .hbm, ⟨7, _⟩ => ⟨S3x512x28x128, .f32⟩
  | .hbm, ⟨8, _⟩ => ⟨S3x512x3584, .f32⟩
  | .hbm, ⟨9, _⟩ => ⟨S1536x3584, .fp8e4m3⟩
  | .hbm, ⟨10, _⟩ => ⟨S1536x3584, .f32⟩
  | .hbm, ⟨11, _⟩ => ⟨S1536x1, .f32⟩
  | .hbm, ⟨12, _⟩ => ⟨S1x3584, .f32⟩
  | .hbm, ⟨13, _⟩ => ⟨S1x4608, .f32⟩
  | .hbm, ⟨14, _⟩ => ⟨S1536x4608, .bf16⟩
  | .hbm, ⟨15, _⟩ => ⟨S1536x3584, .bf16⟩
  | .hbm, ⟨16, _⟩ => ⟨S3584x4608, .f32⟩
  | .hbm, ⟨17, _⟩ => ⟨S1x3584, .f32⟩
  | .local _ .vmem, ⟨0, _⟩ => ⟨S1536x3584, .fp8e4m3⟩
  | .local _ .vmem, ⟨1, _⟩ => ⟨S1536x3584, .f32⟩
  | .local _ .vmem, ⟨2, _⟩ => ⟨S1536x1, .f32⟩
  | .local _ .vmem, ⟨3, _⟩ => ⟨S1x3584, .f32⟩
  | .local _ .vmem, ⟨4, _⟩ => ⟨S3584x4608, .fp8e4m3⟩
  | .local _ .vmem, ⟨5, _⟩ => ⟨S1x4608, .f32⟩
  | .local _ .vmem, ⟨6, _⟩ => ⟨S1536x4608, .bf16⟩
  | .local _ .vmem, ⟨7, _⟩ => ⟨S1536x3584, .bf16⟩
  | .local _ .vmem, ⟨8, _⟩ => ⟨S3584x4608, .f32⟩
  | .local _ .vmem, ⟨9, _⟩ => ⟨S1x3584, .f32⟩
  | _, _ => ⟨S3x512x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KFrame.Runs.lean ====
/- The five cases of the body of `Kernel` gathered, with the conditions that tell them apart. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.KFr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 42 = 0 :=
  (fun t => by
    have ht : t.val < 42 := Nat.lt_of_lt_of_eq t.isLt N_0
    have e0 : (grid0.coords t 0).val = t.val / 1 % 42 := Pipeline.Grid.coords_val t 0 (by decide) rfl
    simp only [cond0_0, e0]
    word_cmp
   : ∀ t : Fin grid0.N, cond0_0 (grid0.coords t) ↔ t.val % 42 = 0)

/-- The condition of the body's `scf.if` 1 (`k0_h2`), from the grid coordinates (the skeleton's scalar
    chain substituted). -/
abbrev cond0_1 (i : grid0.Coords) : Prop := k0_cond2 i = 1#1
/-- It holds at the points before point 14 — decided over the grid. -/
theorem hcond0_1 : ∀ t : Fin cfg0.N, cond0_1 (grid0.coords t) ↔ t.val < 14 :=
  (by decide +kernel : ∀ t : Fin grid0.N, cond0_1 (grid0.coords t) ↔ t.val < 14)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 14#32)) 0#32) = 1#1
/-- It holds at point 14 only — by arithmetic of the point. -/
theorem hcond0_2 : ∀ t : Fin cfg0.N, cond0_2 (grid0.coords t) ↔ t.val % 42 = 14 :=
  (fun t => by
    have ht : t.val < 42 := Nat.lt_of_lt_of_eq t.isLt N_0
    have e0 : (grid0.coords t 0).val = t.val / 1 % 42 := Pipeline.Grid.coords_val t 0 (by decide) rfl
    simp only [cond0_2, e0]
    word_cmp
   : ∀ t : Fin grid0.N, cond0_2 (grid0.coords t) ↔ t.val % 42 = 14)

/-- The condition of the body's `scf.if` 3 (`k0_h4`), from the grid coordinates (the skeleton's scalar
    chain substituted). -/
abbrev cond0_3 (i : grid0.Coords) : Prop := k0_cond4 i = 1#1
/-- It holds at points 14, 16, 18, 20, 22, 24, 26, 28, 30, 32, 34, 36, 38 and 40 only — decided over the grid. -/
theorem hcond0_3 : ∀ t : Fin cfg0.N, cond0_3 (grid0.coords t) ↔ (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40) :=
  (by decide +kernel : ∀ t : Fin grid0.N, cond0_3 (grid0.coords t) ↔ (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40))

/-- The condition of the body's `scf.if` 4 (`k0_h5`), from the grid coordinates (the skeleton's scalar
    chain substituted). -/
abbrev cond0_4 (i : grid0.Coords) : Prop := k0_cond5 i = 1#1
/-- It holds at the points from point 14 on — decided over the grid. -/
theorem hcond0_4 : ∀ t : Fin cfg0.N, cond0_4 (grid0.coords t) ↔ 14 ≤ t.val :=
  (by decide +kernel : ∀ t : Fin grid0.N, cond0_4 (grid0.coords t) ↔ 14 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x28 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4608 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4608 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x4608 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2304 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3584 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1536x3584 .f32 := Memref.whole cc0_scratch0
abbrev scM0_1 : Memref sig .tc .vmem S1536x28 .f32 := Memref.whole cc0_scratch1
abbrev scM0_2 : Memref sig .tc .vmem S1536x128 .f32 := Memref.whole cc0_scratch2
abbrev scM0_3 : Memref sig .tc .vmem S1536x256 .bf16 := Memref.whole cc0_scratch3
/-- The scratch `arg12` the kernel carries between points, as a view: what it holds is stated through it. -/
abbrev VS0_1 : View sig .tc .vmem S1536x28 .f32 := scM0_1.view
/-- The scratch `arg13` the kernel carries between points, as a view: what it holds is stated through it. -/
abbrev VS0_2 : View sig .tc .vmem S1536x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.KFr

end
-- ==== Proof.KFrame.RunA.lean ====
/- Case A of the body of `Kernel`: which of its buffers one point stores into. -/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.KFr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_A (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) :
    Σ' (LS1 : List (View.Piece (Elt F) S1536x28 .f32)), { LS2 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ d, owns (c : Thread nD τ) arg14 fullShare d)) -∗ K ⟨⟩))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_rmsnorm_qkv_bwd_eq_skeleton]; unfold cc0_rmsnorm_qkv_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]; · iexists _; iexact HS1
    isplitl [HS2]; · iexists _; iexact HS2
    iexists _, _; isplitr; swap; · iexact HS3
    ipureintro; rfl

end Cert.Kernel.KFr

end
-- ==== Proof.KFrame.RunB.lean ====
/- Case B of the body of `Kernel`: which of its buffers one point stores into. -/
module

public import proofs.«01_k».proof.Proof.KFrame.RunA

@[expose] public section

-- membership in a rectangle of production extents (`View.cover_of_tiled`): the elaborator's structural look
-- recurses once per coordinate of the long axes
set_option maxRecDepth 16384

noncomputable section

namespace Cert.Kernel.KFr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken, `scf.if` 4 not taken: points 1, 2, … 13: 13 of 42), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_B (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) :
    Σ' (LS1 : List (View.Piece (Elt F) S1536x28 .f32)), { LS2 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ owns (c : Thread nD τ) arg13 fullShare xs2 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ f, arg13.view.loc (c : Thread nD τ) ↦[arg13.view.set]{fullShare} arg13.view.writes (Elt F) f LS2) ∗ (∃ d, owns (c : Thread nD τ) arg14 fullShare d)) -∗ K ⟨⟩))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun E K => ?run⟩
  case run =>
    simp only [cc0_rmsnorm_qkv_bwd_eq_skeleton]; unfold cc0_rmsnorm_qkv_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs1; obtain rfl := harg13.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _; isplitr; · ipureintro; exact harg12.read_unread _
      iexact HS1
    isplitl [HS2]; · iexists _; iexact HS2
    iexists _, _; isplitr; swap; · iexact HS3
    ipureintro; rfl

end Cert.Kernel.KFr

end
-- ==== Proof.KFrame.RunC.lean ====
/- Case C of the body of `Kernel`: which of its buffers one point stores into. -/
module

public import proofs.«01_k».proof.Proof.KFrame.RunB

@[expose] public section

-- membership in a rectangle of production extents (`View.cover_of_tiled`): the elaborator's structural look
-- recurses once per coordinate of the long axes
set_option maxRecDepth 16384

noncomputable section

namespace Cert.Kernel.KFr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 taken, `scf.if` 4 taken: points 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_C (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : cond0_2 i) (hc3 : cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) :
    Σ' (LS1 : List (View.Piece (Elt F) S1536x28 .f32)), { LS2 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ owns (c : Thread nD τ) arg13 fullShare xs2 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ f, arg13.view.loc (c : Thread nD τ) ↦[arg13.view.set]{fullShare} arg13.view.writes (Elt F) f LS2) ∗ (∃ d, owns (c : Thread nD τ) arg14 fullShare d)) -∗ K ⟨⟩))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun E K => ?run⟩
  case run =>
    simp only [cc0_rmsnorm_qkv_bwd_eq_skeleton]; unfold cc0_rmsnorm_qkv_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs1; obtain rfl := harg13.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _; isplitr; · ipureintro; exact harg12.read_unread _
      iexact HS1
    isplitl [HS2]; · iexists _; iexact HS2
    iexists _, _; isplitr; swap; · iexact HS3
    ipureintro; rfl

end Cert.Kernel.KFr

end
-- ==== Proof.KFrame.RunD.lean ====
/- Case D of the body of `Kernel`: which of its buffers one point stores into. -/
module

public import proofs.«01_k».proof.Proof.KFrame.RunC

@[expose] public section

-- membership in a rectangle of production extents (`View.cover_of_tiled`): the elaborator's structural look
-- recurses once per coordinate of the long axes
set_option maxRecDepth 16384

noncomputable section

namespace Cert.Kernel.KFr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 not taken, `scf.if` 4 taken: points 15, 17, … 41: 14 of 42), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_D (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : ¬cond0_2 i) (hc3 : ¬cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) :
    Σ' (LS1 : List (View.Piece (Elt F) S1536x28 .f32)), { LS2 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ owns (c : Thread nD τ) arg13 fullShare xs2 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ owns (c : Thread nD τ) arg13 fullShare xs2 ∗ (∃ d, owns (c : Thread nD τ) arg14 fullShare d)) -∗ K ⟨⟩))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], fun E K => ?run⟩
  case run =>
    simp only [cc0_rmsnorm_qkv_bwd_eq_skeleton]; unfold cc0_rmsnorm_qkv_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs1; obtain rfl := harg13.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _; isplitr; · ipureintro; exact harg12.read_unread _
      iexact HS1
    isplitl [HS2]
    · iexists _; isplitr; · ipureintro; exact harg13.read_unread _
      iexact HS2
    iexists _, _; isplitr; swap; · iexact HS3
    ipureintro; rfl

end Cert.Kernel.KFr

end
-- ==== Proof.KFrame.RunE.lean ====
/- Case E of the body of `Kernel`: which of its buffers one point stores into. -/
module

public import proofs.«01_k».proof.Proof.KFrame.RunD

@[expose] public section

-- membership in a rectangle of production extents (`View.cover_of_tiled`): the elaborator's structural look
-- recurses once per coordinate of the long axes
set_option maxRecDepth 16384

noncomputable section

namespace Cert.Kernel.KFr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 not taken, `scf.if` 3 taken, `scf.if` 4 taken: points 16, 18, … 40: 13 of 42), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_E (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : ¬cond0_2 i) (hc3 : cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) :
    Σ' (LS1 : List (View.Piece (Elt F) S1536x28 .f32)), { LS2 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ owns (c : Thread nD τ) arg13 fullShare xs2 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ owns (c : Thread nD τ) arg13 fullShare xs2 ∗ (∃ d, owns (c : Thread nD τ) arg14 fullShare d)) -∗ K ⟨⟩))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], fun E K => ?run⟩
  case run =>
    simp only [cc0_rmsnorm_qkv_bwd_eq_skeleton]; unfold cc0_rmsnorm_qkv_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs1; obtain rfl := harg13.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _; isplitr; · ipureintro; exact harg12.read_unread _
      iexact HS1
    isplitl [HS2]
    · iexists _; isplitr; · ipureintro; exact harg13.read_unread _
      iexact HS2
    iexists _, _; isplitr; swap; · iexact HS3
    ipureintro; rfl

end Cert.Kernel.KFr

end
-- ==== Proof.KFrame.lean ====
/- The frame of `Kernel`: its body at every point, the pipeline around it, and the argument arrays unchanged at the end; nothing is stated of what the outputs hold. -/
module

public import proofs.«01_k».proof.Proof.KFrame.RunE
public import Idealize.ShloMosaic.Lib.Claim

@[expose] public section

-- membership in a rectangle of production extents (`View.cover_of_tiled`): the elaborator's structural look
-- recurses once per coordinate of the long axes
set_option maxRecDepth 16384

noncomputable section

namespace Cert.Kernel.KFr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 1 piece of `S1536x28` tiling it (Lib/Ring.lean `Piece.tiledL`). -/
theorem scover0_A_1 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (y : S1536x28.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1 S1536x28.size (by sl_kernel_rfl) y

/-- What case A leaves in scratch `arg12`: its pieces read back over junk. -/
def sout0_A_1 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) : Vec F S1536x28 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1)

/-- Case A's pieces for scratch `arg13`, which the kernel carries between points, cover it: 2 pieces of `S1536x128` tiling it (Lib/Ring.lean `Piece.tiledL`). -/
theorem scover0_A_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (y : S1536x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1 S1536x128.size (by sl_kernel_rfl) y

/-- What case A leaves in scratch `arg13`: its pieces read back over junk. -/
def sout0_A_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) : Vec F S1536x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1)

/-- Case B stores nothing into scratch `arg12`: it holds what the point before left. -/
def sout0_B_1 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x28 .f32 := xs1

/-- Case B's pieces for scratch `arg13`, which the kernel carries between points, cover it: 1 piece of `S1536x128` tiling it (Lib/Ring.lean `Piece.tiledL`). -/
theorem scover0_B_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) (y : S1536x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs1 xs2).2.1 S1536x128.size (by sl_kernel_rfl) y

/-- What case B leaves in scratch `arg13`: its pieces read back over junk. -/
def sout0_B_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : cond0_1 i) (hc2 : ¬cond0_2 i) (hc3 : ¬cond0_3 i) (hc4 : ¬cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs1 xs2).2.1)

/-- Case C stores nothing into scratch `arg12`: it holds what the point before left. -/
def sout0_C_1 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : cond0_2 i) (hc3 : cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x28 .f32 := xs1

/-- Case C's pieces for scratch `arg13`, which the kernel carries between points, cover it: 1 piece of `S1536x128` tiling it (Lib/Ring.lean `Piece.tiledL`). -/
theorem scover0_C_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : cond0_2 i) (hc3 : cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) (y : S1536x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs1 xs2).2.1 S1536x128.size (by sl_kernel_rfl) y

/-- What case C leaves in scratch `arg13`: its pieces read back over junk. -/
def sout0_C_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : cond0_2 i) (hc3 : cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs1 xs2).2.1)

/-- Case D stores nothing into scratch `arg12`: it holds what the point before left. -/
def sout0_D_1 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : ¬cond0_2 i) (hc3 : ¬cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x28 .f32 := xs1

/-- Case D stores nothing into scratch `arg13`: it holds what the point before left. -/
def sout0_D_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : ¬cond0_2 i) (hc3 : ¬cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x128 .f32 := xs2

/-- Case E stores nothing into scratch `arg12`: it holds what the point before left. -/
def sout0_E_1 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : ¬cond0_2 i) (hc3 : cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x28 .f32 := xs1

/-- Case E stores nothing into scratch `arg13`: it holds what the point before left. -/
def sout0_E_2 (c : Dev nD) (i : grid0.Coords) (arg1 : Memref sig .tc .vmem S1536x3584 .fp8e4m3) (harg1 : arg1.IsWhole) (arg2 : Memref sig .tc .vmem S1536x28 .f32) (harg2 : arg2.IsWhole) (arg3 : Memref sig .tc .vmem S1536x1 .f32) (harg3 : arg3.IsWhole) (arg4 : Memref sig .tc .vmem S1x3584 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x2304 .f32) (harg9 : arg9.IsWhole) (arg10 : Memref sig .tc .vmem S1x3584 .f32) (harg10 : arg10.IsWhole) (arg11 : Memref sig .tc .vmem S1536x3584 .f32) (harg11 : arg11.IsWhole) (arg12 : Memref sig .tc .vmem S1536x28 .f32) (harg12 : arg12.IsWhole) (arg13 : Memref sig .tc .vmem S1536x128 .f32) (harg13 : arg13.IsWhole) (arg14 : Memref sig .tc .vmem S1536x256 .bf16) (harg14 : arg14.IsWhole) (hc0 : ¬cond0_0 i) (hc1 : ¬cond0_1 i) (hc2 : ¬cond0_2 i) (hc3 : cond0_3 i) (hc4 : cond0_4 i)
    (x0 : Vec F S1536x3584 .fp8e4m3) (x1 : Vec F S1536x28 .f32) (x2 : Vec F S1536x1 .f32) (x3 : Vec F S1x3584 .f32) (x4 : Vec F S256x4608 .fp8e4m3) (x5 : Vec F S1x4608 .f32) (x6 : Vec F S1536x4608 .bf16) (xs1 : Vec F S1536x28 .f32) (xs2 : Vec F S1536x128 .f32) : Vec F S1536x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x28 .f32 × Vec F S1536x128 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 42 = 0 then
      if h1 : (n + 1) < 14 then
        if h2 : (n + 1) % 42 = 14 then
          False.elim (by have hN : n + 1 < 42 := lt_of_lt_of_eq hn (show cfg0.N = 42 from N_0); omega)
        else
          if h3 : ((n + 1) % 42 = 14 ∨ (n + 1) % 42 = 16 ∨ (n + 1) % 42 = 18 ∨ (n + 1) % 42 = 20 ∨ (n + 1) % 42 = 22 ∨ (n + 1) % 42 = 24 ∨ (n + 1) % 42 = 26 ∨ (n + 1) % 42 = 28 ∨ (n + 1) % 42 = 30 ∨ (n + 1) % 42 = 32 ∨ (n + 1) % 42 = 34 ∨ (n + 1) % 42 = 36 ∨ (n + 1) % 42 = 38 ∨ (n + 1) % 42 = 40) then
            False.elim (by have hN : n + 1 < 42 := lt_of_lt_of_eq hn (show cfg0.N = 42 from N_0); omega)
          else
            if h4 : 14 ≤ (n + 1) then
              False.elim (by have hN : n + 1 < 42 := lt_of_lt_of_eq hn (show cfg0.N = 42 from N_0); omega)
            else
              (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        False.elim (by have hN : n + 1 < 42 := lt_of_lt_of_eq hn (show cfg0.N = 42 from N_0); omega)
    else
      if h1 : (n + 1) < 14 then
        if h2 : (n + 1) % 42 = 14 then
          False.elim (by have hN : n + 1 < 42 := lt_of_lt_of_eq hn (show cfg0.N = 42 from N_0); omega)
        else
          if h3 : ((n + 1) % 42 = 14 ∨ (n + 1) % 42 = 16 ∨ (n + 1) % 42 = 18 ∨ (n + 1) % 42 = 20 ∨ (n + 1) % 42 = 22 ∨ (n + 1) % 42 = 24 ∨ (n + 1) % 42 = 26 ∨ (n + 1) % 42 = 28 ∨ (n + 1) % 42 = 30 ∨ (n + 1) % 42 = 32 ∨ (n + 1) % 42 = 34 ∨ (n + 1) % 42 = 36 ∨ (n + 1) % 42 = 38 ∨ (n + 1) % 42 = 40) then
            False.elim (by have hN : n + 1 < 42 := lt_of_lt_of_eq hn (show cfg0.N = 42 from N_0); omega)
          else
            if h4 : 14 ≤ (n + 1) then
              False.elim (by have hN : n + 1 < 42 := lt_of_lt_of_eq hn (show cfg0.N = 42 from N_0); omega)
            else
              (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
      else
        if h2 : (n + 1) % 42 = 14 then
          if h3 : ((n + 1) % 42 = 14 ∨ (n + 1) % 42 = 16 ∨ (n + 1) % 42 = 18 ∨ (n + 1) % 42 = 20 ∨ (n + 1) % 42 = 22 ∨ (n + 1) % 42 = 24 ∨ (n + 1) % 42 = 26 ∨ (n + 1) % 42 = 28 ∨ (n + 1) % 42 = 30 ∨ (n + 1) % 42 = 32 ∨ (n + 1) % 42 = 34 ∨ (n + 1) % 42 = 36 ∨ (n + 1) % 42 = 38 ∨ (n + 1) % 42 = 40) then
            if h4 : 14 ≤ (n + 1) then
              (sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
            else
              False.elim (by have hN : n + 1 < 42 := lt_of_lt_of_eq hn (show cfg0.N = 42 from N_0); omega)
          else
            False.elim (by have hN : n + 1 < 42 := lt_of_lt_of_eq hn (show cfg0.N = 42 from N_0); omega)
        else
          if h3 : ((n + 1) % 42 = 14 ∨ (n + 1) % 42 = 16 ∨ (n + 1) % 42 = 18 ∨ (n + 1) % 42 = 20 ∨ (n + 1) % 42 = 22 ∨ (n + 1) % 42 = 24 ∨ (n + 1) % 42 = 26 ∨ (n + 1) % 42 = 28 ∨ (n + 1) % 42 = 30 ∨ (n + 1) % 42 = 32 ∨ (n + 1) % 42 = 34 ∨ (n + 1) % 42 = 36 ∨ (n + 1) % 42 = 38 ∨ (n + 1) % 42 = 40) then
            if h4 : 14 ≤ (n + 1) then
              (sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
            else
              False.elim (by have hN : n + 1 < 42 := lt_of_lt_of_eq hn (show cfg0.N = 42 from N_0); omega)
          else
            if h4 : 14 ≤ (n + 1) then
              (sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
            else
              False.elim (by have hN : n + 1 < 42 := lt_of_lt_of_eq hn (show cfg0.N = 42 from N_0); omega)

/-- `outsAt0` at a point of case A: that case's contents. -/
theorem outsAt0_A (c : Dev nD) (t : Fin cfg0.N) (h0 : t.val % 42 = 0) (h1 : t.val < 14) (h2 : ¬t.val % 42 = 14) (h3 : ¬(t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)) (h4 : ¬14 ≤ t.val) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_neg h2).trans ((dif_neg h3).trans ((dif_neg h4).trans rfl))))

/-- `outsAt0` at a point of case B: that case's contents, over what the point before left. -/
theorem outsAt0_B (c : Dev nD) (t : Fin cfg0.N) (h0 : ¬t.val % 42 = 0) (h1 : t.val < 14) (h2 : ¬t.val % 42 = 14) (h3 : ¬(t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)) (h4 : ¬14 ≤ t.val) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

/-- `outsAt0` at a point of case C: that case's contents, over what the point before left. -/
theorem outsAt0_C (c : Dev nD) (t : Fin cfg0.N) (h0 : ¬t.val % 42 = 0) (h1 : ¬t.val < 14) (h2 : t.val % 42 = 14) (h3 : (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)) (h4 : 14 ≤ t.val) :
    outsAt0 m c t.val t.isLt = (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans ((dif_pos h4).trans rfl))))

/-- `outsAt0` at a point of case D: that case's contents, over what the point before left. -/
theorem outsAt0_D (c : Dev nD) (t : Fin cfg0.N) (h0 : ¬t.val % 42 = 0) (h1 : ¬t.val < 14) (h2 : ¬t.val % 42 = 14) (h3 : ¬(t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)) (h4 : 14 ≤ t.val) :
    outsAt0 m c t.val t.isLt = (sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-- `outsAt0` at a point of case E: that case's contents, over what the point before left. -/
theorem outsAt0_E (c : Dev nD) (t : Fin cfg0.N) (h0 : ¬t.val % 42 = 0) (h1 : ¬t.val < 14) (h2 : ¬t.val % 42 = 14) (h3 : (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)) (h4 : 14 ≤ t.val) :
    outsAt0 m c t.val t.isLt = (sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_pos h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 42 := lt_of_lt_of_eq t.isLt (show cfg0.N = 42 from N_0)
  by_cases h0 : t.val % 42 = 0
  · by_cases h1 : t.val < 14
    · by_cases h2 : t.val % 42 = 14
      · exfalso; omega
      · by_cases h3 : (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)
        · exfalso; omega
        · by_cases h4 : 14 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · rw [PhiS_castSucc m c t, PhiS_zero m c _ _ hz, PhiA0_eq]
              rw [outsAt0_A m c t h0 h1 h2 h3 h4]
              unfold sout0_A_1 sout0_A_2; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_A c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t)).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              iintro ⟨H0, H1, H2, H3, H4, H5, H6, H7, H8, H9, HS0, ⟨%es1, HS1⟩, ⟨%es2, HS2⟩, HS3⟩
              isplitl [HS0 HS1 HS2 HS3 Hg]
              · isplitl [HS0 HS1 HS2 HS3]
                · isplitl [HS0]
                  · iexact HS0
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _ _ _ _ _ _ _ _ _ _ _ _)
                  isplitl [HS2]
                  · unfold owns; iexists _; isplitr
                    swap; · iexact HS2
                    ipureintro; exact View.read_writes_of_cover _ _ _ _ _ (scover0_A_2 c _ _ _ _ _ _ _ _ _ _ _ _ _ _ _ _ _ _ _ _ _ _ _ _ _ _ _ _ _ _ _ _ _ _ _ _ _ _ _ _ _)
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
            · exfalso; have hN : t.val < 42 := lt_of_lt_of_eq t.isLt (show cfg0.N = 42 from N_0); omega
    · exfalso; omega
  · by_cases h1 : t.val < 14
    · by_cases h2 : t.val % 42 = 14
      · exfalso; omega
      · by_cases h3 : (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)
        · exfalso; omega
        · by_cases h4 : 14 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 42 := lt_of_lt_of_eq t.isLt (show cfg0.N = 42 from N_0); omega
            · rw [PhiS_castSucc m c t, PhiS_pos m c _ _ hz]
              rw [outsAt0_B m c t h0 h1 h2 h3 h4]
              unfold sout0_B_1 sout0_B_2; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) _ _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              iintro ⟨H0, H1, H2, H3, H4, H5, H6, H7, H8, H9, HS0, HS1, ⟨%es2, HS2⟩, HS3⟩
              isplitl [HS0 HS1 HS2 HS3 Hg]
              · isplitl [HS0 HS1 HS2 HS3]
                · isplitl [HS0]
                  · iexact HS0
                  isplitl [HS1]
                  · iexact HS1
                  isplitl [HS2]
                  · unfold owns; iexists _; isplitr
                    swap; · iexact HS2
                    ipureintro; exact View.read_writes_of_cover _ _ _ _ _ (scover0_B_2 c _ _ _ _ _ _ _ _ _ _ _ _ _ _ _ _ _ _ _ _ _ _ _ _ _ _ _ _ _ _ _ _ _ _ _ _ _ _ _ _ _ _ _)
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
    · by_cases h2 : t.val % 42 = 14
      · by_cases h3 : (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)
        · by_cases h4 : 14 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 42 := lt_of_lt_of_eq t.isLt (show cfg0.N = 42 from N_0); omega
            · rw [PhiS_castSucc m c t, PhiS_pos m c _ _ hz]
              rw [outsAt0_C m c t h0 h1 h2 h3 h4]
              unfold sout0_C_1 sout0_C_2; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) ((hcond0_4 t).mpr h4) (iblk m c 0 t) (iblk m c 1 t) (iblk m c 2 t) (iblk m c 3 t) (iblk m c 4 t) (iblk m c 5 t) (iblk m c 6 t) _ _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              iintro ⟨H0, H1, H2, H3, H4, H5, H6, H7, H8, H9, HS0, HS1, ⟨%es2, HS2⟩, HS3⟩
              isplitl [HS0 HS1 HS2 HS3 Hg]
              · isplitl [HS0 HS1 HS2 HS3]
                · isplitl [HS0]
                  · iexact HS0
                  isplitl [HS1]
                  · iexact HS1
                  isplitl [HS2]
                  · unfold owns; iexists _; isplitr
                    swap; · iexact HS2
                    ipureintro; exact View.read_writes_of_cover _ _ _ _ _ (scover0_C_2 c _ _ _ _ _ _ _ _ _ _ _ _ _ _ _ _ _ _ _ _ _ _ _ _ _ _ _ _ _ _ _ _ _ _ _ _ _ _ _ _ _ _ _)
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
          · exfalso; omega
        · exfalso; omega
      · by_cases h3 : (t.val % 42 = 14 ∨ t.val % 42 = 16 ∨ t.val % 42 = 18 ∨ t.val % 42 = 20 ∨ t.val % 42 = 22 ∨ t.val % 42 = 24 ∨ t.val % 42 = 26 ∨ t.val % 42 = 28 ∨ t.val % 42 = 30 ∨ t.val % 42 = 32 ∨ t.val % 42 = 34 ∨ t.val % 42 = 36 ∨ t.val % 42 = 38 ∨ t.val % 42 = 40)
        · by_cases h4 : 14 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 42 := lt_of_lt_of_eq t.isLt (show cfg0.N = 42 from N_0); omega
            · rw [PhiS_castSucc m c t, PhiS_pos m c _ _ hz]
              rw [outsAt0_E m c t h0 h1 h2 h3 h4]
              unfold sout0_E_1 sout0_E_2; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_E c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) _ _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              iintro ⟨H0, H1, H2, H3, H4, H5, H6, H7, H8, H9, HS0, HS1, HS2, HS3⟩
              isplitl [HS0 HS1 HS2 HS3 Hg]
              · isplitl [HS0 HS1 HS2 HS3]
                · isplitl [HS0]
                  · iexact HS0
                  isplitl [HS1]
                  · iexact HS1
                  isplitl [HS2]
                  · iexact HS2
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
          · exfalso; omega
        · by_cases h4 : 14 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 42 := lt_of_lt_of_eq t.isLt (show cfg0.N = 42 from N_0); omega
            · rw [PhiS_castSucc m c t, PhiS_pos m c _ _ hz]
              rw [outsAt0_D m c t h0 h1 h2 h3 h4]
              unfold sout0_D_1 sout0_D_2; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_D c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) _ _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              iintro ⟨H0, H1, H2, H3, H4, H5, H6, H7, H8, H9, HS0, HS1, HS2, HS3⟩
              isplitl [HS0 HS1 HS2 HS3 Hg]
              · isplitl [HS0 HS1 HS2 HS3]
                · isplitl [HS0]
                  · iexact HS0
                  isplitl [HS1]
                  · iexact HS1
                  isplitl [HS2]
                  · iexact HS2
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 42 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.KFr

end
-- ==== Proof.Cases.lean ====
/- Where the grid's points fall: the kernel's five conditions as statements about the point's number, the
   offsets of its slices, and the memrefs that the pipeline passes at a point. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The condition of the body's first `scf.if`: the first point. -/
abbrev isFirst (i : grid0.Coords) : Prop := (Scalar.cmpi .ne (Scalar.extui (Scalar.cmpi .eq (BitVec.ofNat 32 (i 0).val) 0#32)) 0#32) = 1#1
/-- The condition of the third: the first point of the second phase. -/
abbrev isMid (i : grid0.Coords) : Prop := (Scalar.cmpi .ne (Scalar.extui (Scalar.cmpi .eq (BitVec.ofNat 32 (i 0).val) 14#32)) 0#32) = 1#1

theorem isFirst_iff : ∀ t : Fin cfg0.N, isFirst (grid0.coords t) ↔ t.val = 0 :=
  (by decide +kernel : ∀ t : Fin grid0.N, isFirst (grid0.coords t) ↔ t.val = 0)

theorem isMid_iff : ∀ t : Fin cfg0.N, isMid (grid0.coords t) ↔ t.val = 14 :=
  (by decide +kernel : ∀ t : Fin grid0.N, isMid (grid0.coords t) ↔ t.val = 14)

/-- The second condition holds on the first phase, points 0 to 13. -/
theorem cond2_iff : ∀ t : Fin cfg0.N, k0_cond2 (grid0.coords t) = 1#1 ↔ t.val < 14 :=
  (by decide +kernel : ∀ t : Fin grid0.N, k0_cond2 (grid0.coords t) = 1#1 ↔ t.val < 14)

/-- The fourth condition holds at the even points of the second phase. -/
theorem cond4_iff : ∀ t : Fin cfg0.N, k0_cond4 (grid0.coords t) = 1#1 ↔ 14 ≤ t.val ∧ t.val % 2 = 0 :=
  (by decide +kernel : ∀ t : Fin grid0.N, k0_cond4 (grid0.coords t) = 1#1 ↔ 14 ≤ t.val ∧ t.val % 2 = 0)

/-- The fifth condition holds on the second phase. -/
theorem cond5_iff : ∀ t : Fin cfg0.N, k0_cond5 (grid0.coords t) = 1#1 ↔ 14 ≤ t.val :=
  (by decide +kernel : ∀ t : Fin grid0.N, k0_cond5 (grid0.coords t) = 1#1 ↔ 14 ≤ t.val)

/-- In the first phase the column slices start at 256 times the point. -/
theorem off1_eq : ∀ t : Fin cfg0.N, t.val < 14 → k0_off1 (grid0.coords t) = ![0, 256 * t.val] :=
  (by decide +kernel : ∀ t : Fin grid0.N, t.val < 14 → k0_off1 (grid0.coords t) = ![0, 256 * t.val])
theorem off2_eq : ∀ t : Fin cfg0.N, t.val < 14 → k0_off2 (grid0.coords t) = ![0, 256 * t.val] :=
  (by decide +kernel : ∀ t : Fin grid0.N, t.val < 14 → k0_off2 (grid0.coords t) = ![0, 256 * t.val])
/-- In the second phase the column slices start at 256 times half the distance to point 14. -/
theorem off3_eq : ∀ t : Fin cfg0.N, 14 ≤ t.val → k0_off3 (grid0.coords t) = ![0, 256 * ((t.val - 14) / 2)] :=
  (by decide +kernel : ∀ t : Fin grid0.N, 14 ≤ t.val → k0_off3 (grid0.coords t) = ![0, 256 * ((t.val - 14) / 2)])
theorem off4_eq : ∀ t : Fin cfg0.N, 14 ≤ t.val → k0_off4 (grid0.coords t) = ![0, 256 * ((t.val - 14) / 2)] :=
  (by decide +kernel : ∀ t : Fin grid0.N, 14 ≤ t.val → k0_off4 (grid0.coords t) = ![0, 256 * ((t.val - 14) / 2)])
/-- In the second phase the product's columns start at 0 on even points and at 2304 on odd ones. -/
theorem off5_eq : ∀ t : Fin cfg0.N, 14 ≤ t.val → k0_off5 (grid0.coords t) = ![0, 2304 * ((t.val - 14) % 2)] :=
  (by decide +kernel : ∀ t : Fin grid0.N, 14 ≤ t.val → k0_off5 (grid0.coords t) = ![0, 2304 * ((t.val - 14) % 2)])

/-- The number of grid points. -/
theorem N_eq : cfg0.N = 42 := N_0

/-- The grid coordinate of a point is the point. -/
theorem coord_eq (t : Fin cfg0.N) : (grid0.coords t 0).val = t.val :=
  (by decide +kernel : ∀ t : Fin grid0.N, (grid0.coords t 0).val = t.val) t

/-- The four scratch operands, whole scoped buffers of the kernel's own. -/
abbrev sc0 : Memref sig .tc .vmem S1536x3584 .f32 := Memref.whole cc0_scratch0
abbrev sc1 : Memref sig .tc .vmem S1536x28 .f32 := Memref.whole cc0_scratch1
abbrev sc2 : Memref sig .tc .vmem S1536x128 .f32 := Memref.whole cc0_scratch2
abbrev sc3 : Memref sig .tc .vmem S1536x256 .bf16 := Memref.whole cc0_scratch3

end Cert.KernelIdeal.Hand

end
-- ==== Proof.Body.lean ====
/- What the kernel's body finds and leaves: its fourteen operands held, and the values that one point stores, named
   off the contents that it found. -/
module

public import proofs.«01_k».proof.Proof.Cases
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S1536x3584 .fp8e4m3) (harg1 : arg1.IsWhole) (arg2 : Memref sig .tc .vmem S1536x28 .f32) (harg2 : arg2.IsWhole)
  (arg3 : Memref sig .tc .vmem S1536x1 .f32) (harg3 : arg3.IsWhole) (arg4 : Memref sig .tc .vmem S1x3584 .f32) (harg4 : arg4.IsWhole)
  (arg5 : Memref sig .tc .vmem S256x4608 .fp8e4m3) (harg5 : arg5.IsWhole) (arg6 : Memref sig .tc .vmem S1x4608 .f32) (harg6 : arg6.IsWhole)
  (arg7 : Memref sig .tc .vmem S1536x4608 .bf16) (harg7 : arg7.IsWhole) (arg8 : Memref sig .tc .vmem S1536x256 .bf16) (harg8 : arg8.IsWhole)
  (arg9 : Memref sig .tc .vmem S256x2304 .f32) (harg9 : arg9.IsWhole) (arg10 : Memref sig .tc .vmem S1x3584 .f32) (harg10 : arg10.IsWhole)
  (arg11 : Memref sig .tc .vmem S1536x3584 .f32) (harg11 : arg11.IsWhole) (arg12 : Memref sig .tc .vmem S1536x28 .f32) (harg12 : arg12.IsWhole)
  (arg13 : Memref sig .tc .vmem S1536x128 .f32) (harg13 : arg13.IsWhole) (arg14 : Memref sig .tc .vmem S1536x256 .bf16) (harg14 : arg14.IsWhole)

/-- The body's fourteen operands held outright, each at the contents named. -/
def held (x1 : Vec F S1536x3584 .fp8e4m3) (x2 : Vec F S1536x28 .f32) (x3 : Vec F S1536x1 .f32) (x4 : Vec F S1x3584 .f32) (x5 : Vec F S256x4608 .fp8e4m3)
    (x6 : Vec F S1x4608 .f32) (x7 : Vec F S1536x4608 .bf16) (x8 : Vec F S1536x256 .bf16) (x9 : Vec F S256x2304 .f32) (x10 : Vec F S1x3584 .f32)
    (x11 : Vec F S1536x3584 .f32) (x12 : Vec F S1536x28 .f32) (x13 : Vec F S1536x128 .f32) (x14 : Vec F S1536x256 .bf16) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8 ∗ owns (c : Thread nD τ) arg9 fullShare x9
    ∗ owns (c : Thread nD τ) arg10 fullShare x10 ∗ owns (c : Thread nD τ) arg11 fullShare x11 ∗ owns (c : Thread nD τ) arg12 fullShare x12
    ∗ owns (c : Thread nD τ) arg13 fullShare x13 ∗ owns (c : Thread nD τ) arg14 fullShare x14)

/-- Memory at `f` under a memref is the memref owned at what `f` reads. -/
theorem owns_of_read {sp : Space} {s : Shape} {e : EltTy} (M : Memref sig .tc sp s e) {f : M.view.ty.Contents (Elt F)} {x : s.Idx → Elt F e}
    (h : M.view.read (Elt F) f = x) :
    (M.view.loc (c : Thread nD τ) ↦[M.view.set]{fullShare} f : sProp 𝕄) ⊢ owns (c : Thread nD τ) M fullShare x := by
  unfold owns
  iintro H; iexists f; isplitr
  · ipureintro; exact h
  · iexact H

/-- A whole memref owned at `x` is the memory under it at the contents that read `x`. -/
theorem mem_of_owns {sp : Space} {s : Shape} {e : EltTy} {M : Memref sig .tc sp s e} (h : M.IsWhole) (x : s.Idx → Elt F e) :
    (owns (c : Thread nD τ) M fullShare x : sProp 𝕄) ⊢ M.view.loc (c : Thread nD τ) ↦[M.view.set]{fullShare} h.unread x := by
  unfold owns
  iintro ⟨%f, %hf, H⟩
  obtain rfl := h.eq_unread hf
  iexact H

/-- The columns `[o, o + w)` of a two-axis block lie inside it. -/
theorem cols_inb {R C w o : ℕ} (h : o + w ≤ C) : ∀ a, (![0, o] : Fin 2 → ℕ) a + (![R, w] : Fin 2 → ℕ) a ≤ (⟨2, ![R, C]⟩ : Shape).size a :=
  Fin.forall_fin_two.mpr ⟨Nat.le_of_eq (Nat.zero_add R), h⟩

/-- The columns `[o, o + w)` of a two-axis block. -/
def cols {e : EltTy} {R C : ℕ} (w o : ℕ) (h : o + w ≤ C) (X : Vec F ⟨2, ![R, C]⟩ e) : Vec F ⟨2, ![R, w]⟩ e :=
  VecWindow.window X ![0, o] ![R, w] (cols_inb h)

/-- A two-axis block with its columns `[o, o + w)` replaced. -/
def setCols {e : EltTy} {R C : ℕ} (w o : ℕ) (X : Vec F ⟨2, ![R, C]⟩ e) (P : Vec F ⟨2, ![R, w]⟩ e) : Vec F ⟨2, ![R, C]⟩ e :=
  VecWindow.put X ![0, o] ![R, w] P

/-- A load of a whole memref held at the contents that read `x` reads `x`. -/
theorem load_whole {sp : Space} {s : Shape} {e : EltTy} {M : Memref sig .tc sp s e} (h : M.IsWhole) (x : s.Idx → Elt F e) {off : Fin s.rank → ℕ}
    (inb : ∀ a, off a + s.size a ≤ s.size a) : M.view.readAt (Elt F) (Rect.unit off s.size inb).toLoadRect (h.unread x) = x :=
  (View.readAt_full M.view (h.unread x) inb).trans (h.read_unread x)

/-- A load of the columns `[o, o + w)` of a whole memref held at the contents that read `x` reads those columns of `x`. -/
theorem load_cols {sp : Space} {e : EltTy} {R C : ℕ} {M : Memref sig .tc sp ⟨2, ![R, C]⟩ e} (h : M.IsWhole) (x : Vec F ⟨2, ![R, C]⟩ e)
    {w o : ℕ} (hb : o + w ≤ C) {off : Fin 2 → ℕ} (inb : ∀ a, off a + (![R, w] : Fin 2 → ℕ) a ≤ (⟨2, ![R, C]⟩ : Shape).size a) (eo : off = ![0, o]) :
    M.view.readAt (Elt F) (Rect.unit (s := ⟨2, ![R, C]⟩) off ![R, w] inb).toLoadRect (h.unread x) = cols w o hb x :=
  (View.readAt_unit M.view (h.unread x) inb eo (cols_inb hb)).trans (by rw [h.read_unread]; rfl)

/-- A store into the columns `[o, o + w)` of a whole memref held at the contents that read `x`. -/
theorem store_cols {sp : Space} {e : EltTy} {R C : ℕ} {M : Memref sig .tc sp ⟨2, ![R, C]⟩ e} (h : M.IsWhole) (x : Vec F ⟨2, ![R, C]⟩ e)
    {w o : ℕ} {off : Fin 2 → ℕ} (inb : ∀ a, off a + (![R, w] : Fin 2 → ℕ) a ≤ (⟨2, ![R, C]⟩ : Shape).size a) (eo : off = ![0, o])
    {P Q : Vec F ⟨2, ![R, w]⟩ e} (hP : P = Q) :
    M.view.read (Elt F) (M.view.writes (Elt F) (h.unread x) [⟨Rect.unit (s := ⟨2, ![R, C]⟩) off ![R, w] inb, P⟩]) = setCols w o x Q := by
  subst hP
  rw [View.read_writes_cons_put M.view _ inb P [] eo, View.writes_nil, h.read_unread]
  rfl

/-- A store over a whole memref. -/
theorem store_whole {sp : Space} {s : Shape} {e : EltTy} {M : Memref sig .tc sp s e} {f : M.view.ty.Contents (Elt F)} {off : Fin s.rank → ℕ}
    (inb : ∀ a, off a + s.size a ≤ s.size a) {P Q : s.Idx → Elt F e} (L : List (View.Piece (Elt F) s e)) (hP : P = Q) :
    M.view.read (Elt F) (M.view.writes (Elt F) f (⟨Rect.unit off s.size inb, P⟩ :: L)) = Q :=
  (View.read_writes_full M.view f inb P L).trans hP

/-- A load of a whole memref after a store over it reads the stored value. -/
theorem load_stored {sp : Space} {s : Shape} {e : EltTy} {M : Memref sig .tc sp s e} {f : M.view.ty.Contents (Elt F)} {off off' : Fin s.rank → ℕ}
    (inb : ∀ a, off a + s.size a ≤ s.size a) (inb' : ∀ a, off' a + s.size a ≤ s.size a) {P : s.Idx → Elt F e} (L : List (View.Piece (Elt F) s e)) :
    M.view.readAt (Elt F) (Rect.unit off s.size inb).toLoadRect (M.view.writes (Elt F) f (⟨Rect.unit off' s.size inb', P⟩ :: L)) = P :=
  (View.readAt_full M.view _ inb).trans (View.read_writes_full M.view f inb' P L)

variable (x1 : Vec F S1536x3584 .fp8e4m3) (x2 : Vec F S1536x28 .f32) (x3 : Vec F S1536x1 .f32) (x4 : Vec F S1x3584 .f32) (x5 : Vec F S256x4608 .fp8e4m3)
    (x6 : Vec F S1x4608 .f32) (x7 : Vec F S1536x4608 .bf16) (x8 : Vec F S1536x256 .bf16) (x9 : Vec F S256x2304 .f32) (x10 : Vec F S1x3584 .f32)
    (x11 : Vec F S1536x3584 .f32) (x12 : Vec F S1536x28 .f32) (x13 : Vec F S1536x128 .f32) (x14 : Vec F S1536x256 .bf16)

/-- First phase: the 256 columns of the normalized block at the point, from the codes and the scaled row factors `s`. -/
def nFirst (o : ℕ) (h : o + 256 ≤ 3584) (s : Vec F S1536x28 .f32) : Vec F S1536x256 .f32 := k0_pay14 (BitVec.ofNat 32 (i 0).val) (cols 256 o h x1) s s

/-- First phase: the point's weight rows, dequantized. -/
def wFirst : Vec F S256x4608 .bf16 := k0_pay15 x5 x6

/-- First phase: the weight rows as the body computes them from its two loads. -/
theorem load_w : k0_pay15 (arg5.view.readAt (Elt F) (Rect.unit (s := S256x4608) ![0, 0] S256x4608.size inb_S256x4608_S256x4608_0_0).toLoadRect (harg5.unread x5))
    (arg6.view.readAt (Elt F) (Rect.unit (s := S1x4608) ![0, 0] S1x4608.size inb_S1x4608_S1x4608_0_0).toLoadRect (harg6.unread x6)) = wFirst x5 x6 :=
  congr (congrArg k0_pay15 (load_whole harg5 x5 inb_S256x4608_S256x4608_0_0)) (load_whole harg6 x6 inb_S1x4608_S1x4608_0_0)

/-- First phase: `dg` with the point's columns stored. -/
def dgFirst (o : ℕ) (h : o + 256 ≤ 3584) (s : Vec F S1536x28 .f32) : Vec F S1x3584 .f32 :=
  setCols 256 o x10 (k0_pay5 (nFirst i x1 o h s) (wFirst x5 x6) x7)

/-- First phase: the scaled gradient with the point's columns stored. -/
def gFirst (o : ℕ) (h : o + 256 ≤ 3584) : Vec F S1536x3584 .f32 :=
  setCols 256 o x11 (k0_pay7 (wFirst x5 x6) x7 (cols 256 o h x4))

/-- First phase: the lane sums with the point's term added. -/
def dotFirst (o : ℕ) (h : o + 256 ≤ 3584) (s : Vec F S1536x28 .f32) (d : Vec F S1536x128 .f32) : Vec F S1536x128 .f32 :=
  k0_pay8 (nFirst i x1 o h s) (wFirst x5 x6) x7 (cols 256 o h x4) d

/-- Second phase, even points: the 256 columns of the scaled normalized block. -/
def xhSecond (o : ℕ) (h : o + 256 ≤ 3584) : Vec F S1536x256 .bf16 :=
  k0_pay11 (k0_pay16 (cols 256 o h x1)) (k0_pay17 (BitVec.ofNat 32 (i 0).val) (cols 256 o h x1) x12) (k0_pay18 (BitVec.ofNat 32 (i 0).val)) x12 (cols 256 o h x4)

/-- Second phase, even points: the 256 columns of `dx`, given the mean `d`. -/
def dxSecond (o : ℕ) (h : o + 256 ≤ 3584) (d : Vec F S1536x128 .f32) : Vec F S1536x256 .bf16 :=
  k0_pay12 (k0_pay16 (cols 256 o h x1)) (k0_pay17 (BitVec.ofNat 32 (i 0).val) (cols 256 o h x1) x12) (k0_pay18 (BitVec.ofNat 32 (i 0).val)) x12 d x3 (cols 256 o h x11)

/-- Second phase: a block of `dw` from the scaled normalized block. -/
def dwSecond (q : ℕ) (h : q + 2304 ≤ 4608) (b : Vec F S1536x256 .bf16) : Vec F S256x2304 .f32 := k0_pay13 b (cols 2304 q h x7)

end Cert.KernelIdeal.Hand

end
-- ==== Proof.State.lean ====
/- The values that the kernel's points leave, named off its inputs, and what its scratch and its third result hold between
   points. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

/-- The first phase's point `j`. -/
def ptA (j : Fin 14) : Fin cfg0.N := ⟨j.val, by rw [N_eq]; omega⟩
/-- The second phase's even point of column block `k`. -/
def ptB (k : Fin 14) : Fin cfg0.N := ⟨14 + 2 * k.val, by rw [N_eq]; omega⟩
/-- The second phase's odd point of column block `k`. -/
def ptC (k : Fin 14) : Fin cfg0.N := ⟨15 + 2 * k.val, by rw [N_eq]; omega⟩

theorem ptA_val (j : Fin 14) : (ptA j).val = j.val := rfl
theorem ptB_val (k : Fin 14) : (ptB k).val = 14 + 2 * k.val := rfl
theorem ptC_val (k : Fin 14) : (ptC k).val = 15 + 2 * k.val := rfl

/-- Every point is one of the three kinds. -/
theorem pt_cases (t : Fin cfg0.N) : (∃ j, t = ptA j) ∨ (∃ k, t = ptB k) ∨ (∃ k, t = ptC k) := by
  have hN : t.val < 42 := lt_of_lt_of_eq t.isLt N_eq
  by_cases h : t.val < 14
  · exact .inl ⟨⟨t.val, h⟩, Fin.ext rfl⟩
  · by_cases h2 : t.val % 2 = 0
    · exact .inr (.inl ⟨⟨(t.val - 14) / 2, by omega⟩, Fin.ext (by rw [ptB_val]; show t.val = 14 + 2 * ((t.val - 14) / 2); omega)⟩)
    · exact .inr (.inr ⟨⟨(t.val - 14) / 2, by omega⟩, Fin.ext (by rw [ptC_val]; show t.val = 15 + 2 * ((t.val - 14) / 2); omega)⟩)

/-- Column block `k`, 256 columns wide, lies inside the 3584 columns. -/
theorem blk_le (k : Fin 14) : 256 * k.val + 256 ≤ 3584 := by omega
/-- Either half of the 4608 columns lies inside them. -/
theorem half_le (q : Fin 2) : 2304 * q.val + 2304 ≤ 4608 := by omega

variable (F) in
/-- The kernel's operands as its body meets them: six that are whole at every point, and the weight rows of each block. -/
structure Ins where
  x1 : Vec F S1536x3584 .fp8e4m3
  x2 : Vec F S1536x28 .f32
  x3 : Vec F S1536x1 .f32
  x4 : Vec F S1x3584 .f32
  W : Fin 14 → Vec F S256x4608 .fp8e4m3
  x6 : Vec F S1x4608 .f32
  x7 : Vec F S1536x4608 .bf16

namespace Ins

variable (a : Ins F)

/-- The row factors: scales times reciprocal deviations. -/
def sxr : Vec F S1536x28 .f32 := k0_pay1 a.x2 a.x3
/-- Block `j`'s columns of `dg`. -/
def dgCols (j : Fin 14) : Vec F S1x256 .f32 :=
  k0_pay5 (nFirst (grid0.coords (ptA j)) a.x1 (256 * j.val) (blk_le j) a.sxr) (wFirst (a.W j) a.x6) a.x7
/-- Block `j`'s columns of the scaled gradient. -/
def gCols (j : Fin 14) : Vec F S1536x256 .f32 := k0_pay7 (wFirst (a.W j) a.x6) a.x7 (cols 256 (256 * j.val) (blk_le j) a.x4)
/-- The lane sums after the first `n` blocks. -/
def dotN : ℕ → Vec F S1536x128 .f32
  | 0 => k0_pay2
  | n + 1 => if h : n < 14 then
      dotFirst (grid0.coords (ptA ⟨n, h⟩)) a.x1 a.x4 (a.W ⟨n, h⟩) a.x6 a.x7 (256 * n) (blk_le ⟨n, h⟩) a.sxr (dotN n)
    else dotN n
/-- The rows' means. -/
def mean : Vec F S1536x128 .f32 := k0_pay9 (a.dotN 14)
/-- Block `k`'s columns of the scaled normalized matrix. -/
def xh (k : Fin 14) : Vec F S1536x256 .bf16 := xhSecond (grid0.coords (ptB k)) a.x1 a.x4 a.sxr (256 * k.val) (blk_le k)
/-- Block `k`'s columns of `dx`. -/
def dxCols (k : Fin 14) : Vec F S1536x256 .bf16 :=
  k0_pay12 (k0_pay16 (cols 256 (256 * k.val) (blk_le k) a.x1))
    (k0_pay17 (BitVec.ofNat 32 (grid0.coords (ptB k) 0).val) (cols 256 (256 * k.val) (blk_le k) a.x1) a.sxr)
    (k0_pay18 (BitVec.ofNat 32 (grid0.coords (ptB k) 0).val)) a.sxr a.mean a.x3 (a.gCols k)
/-- Block `(k, q)` of `dw`. -/
def dwBlk (k : Fin 14) (q : Fin 2) : Vec F S256x2304 .f32 := dwSecond a.x7 (2304 * q.val) (half_le q) (a.xh k)

/-- `dg`'s buffer before point `n`: the blocks of the points before it are in place. -/
def DgInv (n : ℕ) (Y : Vec F S1x3584 .f32) : Prop := ∀ j : Fin 14, j.val < n → cols 256 (256 * j.val) (blk_le j) Y = a.dgCols j

/-- The scratch before point `n`, not the first. -/
def Inv (n : ℕ) (s0 : Vec F S1536x3584 .f32) (s1 : Vec F S1536x28 .f32) (s2 : Vec F S1536x128 .f32) (s3 : Vec F S1536x256 .bf16) : Prop :=
  n ≠ 0 → s1 = a.sxr ∧ (∀ j : Fin 14, j.val < n → cols 256 (256 * j.val) (blk_le j) s0 = a.gCols j)
    ∧ (n ≤ 14 → s2 = a.dotN n) ∧ (14 < n → s2 = a.mean) ∧ (∀ k : Fin 14, n = 15 + 2 * k.val → s3 = a.xh k)

/-- What a point leaves in `dx`'s buffer. -/
def R7 (t : Fin cfg0.N) (Y X : Vec F S1536x256 .bf16) : Prop := (∀ k, t = ptB k → X = a.dxCols k) ∧ (∀ k, t = ptC k → X = Y)
/-- What a point leaves in `dw`'s buffer. -/
def R8 (t : Fin cfg0.N) (_ X : Vec F S256x2304 .f32) : Prop := (∀ k, t = ptB k → X = a.dwBlk k 0) ∧ (∀ k, t = ptC k → X = a.dwBlk k 1)
/-- What a point leaves in `dg`'s buffer. -/
def R9 (t : Fin cfg0.N) (Y X : Vec F S1x3584 .f32) : Prop := a.DgInv t.val Y → a.DgInv (t.val + 1) X

end Ins

/-- The columns just stored are the ones stored. -/
theorem cols_setCols_same {e : EltTy} {R C : ℕ} {w o : ℕ} (h : o + w ≤ C) (X : Vec F ⟨2, ![R, C]⟩ e) (P : Vec F ⟨2, ![R, w]⟩ e) :
    cols w o h (setCols w o X P) = P :=
  VecWindow.window_put_same (s := ⟨2, ![R, C]⟩) X ![0, o] ![R, w] (cols_inb h) P

/-- Columns apart from the ones stored are as before. -/
theorem cols_setCols_other {e : EltTy} {R C : ℕ} {w o o' : ℕ} (h : o' + w ≤ C) (X : Vec F ⟨2, ![R, C]⟩ e) (P : Vec F ⟨2, ![R, w]⟩ e)
    (hd : o' + w ≤ o ∨ o + w ≤ o') : cols w o' h (setCols w o X P) = cols w o' h X :=
  VecWindow.window_put_of_disjoint (s := ⟨2, ![R, C]⟩) X ![0, o] ![R, w] ![0, o'] ![R, w] (cols_inb h) P 1 hd

/-- Storing block `j` after the blocks before it puts the blocks up to `j` in place. -/
theorem blocks_step {e : EltTy} {R : ℕ} (G : Fin 14 → Vec F ⟨2, ![R, 256]⟩ e) (j : Fin 14) (X : Vec F ⟨2, ![R, 3584]⟩ e)
    (hX : ∀ i : Fin 14, i.val < j.val → cols 256 (256 * i.val) (blk_le i) X = G i) (i : Fin 14) (hi : i.val < j.val + 1) :
    cols 256 (256 * i.val) (blk_le i) (setCols 256 (256 * j.val) X (G j)) = G i := by
  by_cases h : i = j
  · subst h; exact cols_setCols_same (blk_le i) X (G i)
  · have : i.val ≠ j.val := fun e => h (Fin.ext e)
    rw [cols_setCols_other (blk_le i) X (G j) (by omega)]
    exact hX i (by omega)

end Cert.KernelIdeal.Hand

end
-- ==== Proof.RunZero.lean ====
/- The very first point: what the body leaves in its operands. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S1536x3584 .fp8e4m3) (harg1 : arg1.IsWhole) (arg2 : Memref sig .tc .vmem S1536x28 .f32) (harg2 : arg2.IsWhole)
  (arg3 : Memref sig .tc .vmem S1536x1 .f32) (harg3 : arg3.IsWhole) (arg4 : Memref sig .tc .vmem S1x3584 .f32) (harg4 : arg4.IsWhole)
  (arg5 : Memref sig .tc .vmem S256x4608 .fp8e4m3) (harg5 : arg5.IsWhole) (arg6 : Memref sig .tc .vmem S1x4608 .f32) (harg6 : arg6.IsWhole)
  (arg7 : Memref sig .tc .vmem S1536x4608 .bf16) (harg7 : arg7.IsWhole) (arg8 : Memref sig .tc .vmem S1536x256 .bf16) (harg8 : arg8.IsWhole)
  (arg9 : Memref sig .tc .vmem S256x2304 .f32) (harg9 : arg9.IsWhole) (arg10 : Memref sig .tc .vmem S1x3584 .f32) (harg10 : arg10.IsWhole)
  (arg11 : Memref sig .tc .vmem S1536x3584 .f32) (harg11 : arg11.IsWhole) (arg12 : Memref sig .tc .vmem S1536x28 .f32) (harg12 : arg12.IsWhole)
  (arg13 : Memref sig .tc .vmem S1536x128 .f32) (harg13 : arg13.IsWhole) (arg14 : Memref sig .tc .vmem S1536x256 .bf16) (harg14 : arg14.IsWhole)

variable (x1 : Vec F S1536x3584 .fp8e4m3) (x2 : Vec F S1536x28 .f32) (x3 : Vec F S1536x1 .f32) (x4 : Vec F S1x3584 .f32) (x5 : Vec F S256x4608 .fp8e4m3)
    (x6 : Vec F S1x4608 .f32) (x7 : Vec F S1536x4608 .bf16) (x8 : Vec F S1536x256 .bf16) (x9 : Vec F S256x2304 .f32) (x10 : Vec F S1x3584 .f32)
    (x11 : Vec F S1536x3584 .f32) (x12 : Vec F S1536x28 .f32) (x13 : Vec F S1536x128 .f32) (x14 : Vec F S1536x256 .bf16)

set_option maxHeartbeats 800000 in
/-- The very first point: the row factors and the zero lane sums are stored first, then the point works as the others of the first phase. -/
theorem run_zero (o : ℕ) (h : o + 256 ≤ 3584) (ho1 : k0_off1 i = ![0, o]) (ho2 : k0_off2 i = ![0, o])
    (hc0 : isFirst i) (hc1 : k0_cond2 i = 1#1) (hc2 : ¬isMid i) (hc3 : ¬k0_cond4 i = 1#1) (hc4 : ¬k0_cond5 i = 1#1) (E : Set ℕ) (K : PUnit → sProp 𝕄) :
    iprop(held c arg1 arg2 arg3 arg4 arg5 arg6 arg7 arg8 arg9 arg10 arg11 arg12 arg13 arg14 x1 x2 x3 x4 x5 x6 x7 x8 x9 x10 x11 x12 x13 x14
        ∗ (held c arg1 arg2 arg3 arg4 arg5 arg6 arg7 arg8 arg9 arg10 arg11 arg12 arg13 arg14 x1 x2 x3 x4 x5 x6 x7 x8 x9 (dgFirst i x1 x5 x6 x7 x10 o h (k0_pay1 x2 x3)) (gFirst x4 x5 x6 x7 x11 o h) (k0_pay1 x2 x3) (dotFirst i x1 x4 x5 x6 x7 o h (k0_pay1 x2 x3) k0_pay2) x14 -∗ K ⟨⟩))
      ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rmsnorm_qkv_bwd_eq_skeleton]; unfold cc0_rmsnorm_qkv_bwd_skel
  simp only [k0_part1_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; swap; · iexact H10
    ipureintro; exact store_cols harg10 x10 (k0_off2_inb i hc1) ho2 (congr (congr (congrArg k0_pay5 (congr (congr (congrArg (k0_pay14 (BitVec.ofNat 32 (i 0).val)) (load_cols harg1 x1 h (k0_off1_inb i hc1) ho1)) ((load_stored inb_S1536x28_S1536x28_0_0 inb_S1536x28_S1536x28_0_0 []).trans (congr (congrArg k0_pay1 (load_whole harg2 x2 inb_S1536x28_S1536x28_0_0)) (load_whole harg3 x3 inb_S1536x1_S1536x1_0_0)))) ((load_stored inb_S1536x28_S1536x28_0_0 inb_S1536x28_S1536x28_0_0 []).trans (congr (congrArg k0_pay1 (load_whole harg2 x2 inb_S1536x28_S1536x28_0_0)) (load_whole harg3 x3 inb_S1536x1_S1536x1_0_0))))) (load_w arg5 harg5 arg6 harg6 x5 x6)) (load_whole harg7 x7 inb_S1536x4608_S1536x4608_0_0))
  isplitl [H11]
  · iexists _; isplitr; swap; · iexact H11
    ipureintro; exact store_cols harg11 x11 (k0_off1_inb i hc1) ho1 (congr (congr (congrArg k0_pay7 (load_w arg5 harg5 arg6 harg6 x5 x6)) (load_whole harg7 x7 inb_S1536x4608_S1536x4608_0_0)) (load_cols harg4 x4 h (k0_off2_inb i hc1) ho2))
  isplitl [H12]
  · iexists _; isplitr; swap; · iexact H12
    ipureintro; exact store_whole inb_S1536x28_S1536x28_0_0 [] (congr (congrArg k0_pay1 (load_whole harg2 x2 inb_S1536x28_S1536x28_0_0)) (load_whole harg3 x3 inb_S1536x1_S1536x1_0_0))
  isplitl [H13]
  · iexists _; isplitr; swap; · iexact H13
    ipureintro; exact store_whole inb_S1536x128_S1536x128_0_0 _ (congr (congr (congr (congr (congrArg k0_pay8 (congr (congr (congrArg (k0_pay14 (BitVec.ofNat 32 (i 0).val)) (load_cols harg1 x1 h (k0_off1_inb i hc1) ho1)) ((load_stored inb_S1536x28_S1536x28_0_0 inb_S1536x28_S1536x28_0_0 []).trans (congr (congrArg k0_pay1 (load_whole harg2 x2 inb_S1536x28_S1536x28_0_0)) (load_whole harg3 x3 inb_S1536x1_S1536x1_0_0)))) ((load_stored inb_S1536x28_S1536x28_0_0 inb_S1536x28_S1536x28_0_0 []).trans (congr (congrArg k0_pay1 (load_whole harg2 x2 inb_S1536x28_S1536x28_0_0)) (load_whole harg3 x3 inb_S1536x1_S1536x1_0_0))))) (load_w arg5 harg5 arg6 harg6 x5 x6)) (load_whole harg7 x7 inb_S1536x4608_S1536x4608_0_0)) (load_cols harg4 x4 h (k0_off2_inb i hc1) ho2)) (load_stored inb_S1536x128_S1536x128_0_0 inb_S1536x128_S1536x128_0_0 []))
  · iexists _; isplitr; · ipureintro; exact hf14
    iexact H14

end Cert.KernelIdeal.Hand

end
-- ==== Proof.RunFirst.lean ====
/- One point of the first phase: what the body leaves in its operands. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S1536x3584 .fp8e4m3) (harg1 : arg1.IsWhole) (arg2 : Memref sig .tc .vmem S1536x28 .f32) (harg2 : arg2.IsWhole)
  (arg3 : Memref sig .tc .vmem S1536x1 .f32) (harg3 : arg3.IsWhole) (arg4 : Memref sig .tc .vmem S1x3584 .f32) (harg4 : arg4.IsWhole)
  (arg5 : Memref sig .tc .vmem S256x4608 .fp8e4m3) (harg5 : arg5.IsWhole) (arg6 : Memref sig .tc .vmem S1x4608 .f32) (harg6 : arg6.IsWhole)
  (arg7 : Memref sig .tc .vmem S1536x4608 .bf16) (harg7 : arg7.IsWhole) (arg8 : Memref sig .tc .vmem S1536x256 .bf16) (harg8 : arg8.IsWhole)
  (arg9 : Memref sig .tc .vmem S256x2304 .f32) (harg9 : arg9.IsWhole) (arg10 : Memref sig .tc .vmem S1x3584 .f32) (harg10 : arg10.IsWhole)
  (arg11 : Memref sig .tc .vmem S1536x3584 .f32) (harg11 : arg11.IsWhole) (arg12 : Memref sig .tc .vmem S1536x28 .f32) (harg12 : arg12.IsWhole)
  (arg13 : Memref sig .tc .vmem S1536x128 .f32) (harg13 : arg13.IsWhole) (arg14 : Memref sig .tc .vmem S1536x256 .bf16) (harg14 : arg14.IsWhole)

variable (x1 : Vec F S1536x3584 .fp8e4m3) (x2 : Vec F S1536x28 .f32) (x3 : Vec F S1536x1 .f32) (x4 : Vec F S1x3584 .f32) (x5 : Vec F S256x4608 .fp8e4m3)
    (x6 : Vec F S1x4608 .f32) (x7 : Vec F S1536x4608 .bf16) (x8 : Vec F S1536x256 .bf16) (x9 : Vec F S256x2304 .f32) (x10 : Vec F S1x3584 .f32)
    (x11 : Vec F S1536x3584 .f32) (x12 : Vec F S1536x28 .f32) (x13 : Vec F S1536x128 .f32) (x14 : Vec F S1536x256 .bf16)

set_option maxHeartbeats 600000 in
/-- A point of the first phase after the very first: the point’s columns of `dg` and of the scaled gradient are stored and the lane sums take its term. -/
theorem run_first (o : ℕ) (h : o + 256 ≤ 3584) (ho1 : k0_off1 i = ![0, o]) (ho2 : k0_off2 i = ![0, o])
    (hc0 : ¬isFirst i) (hc1 : k0_cond2 i = 1#1) (hc2 : ¬isMid i) (hc3 : ¬k0_cond4 i = 1#1) (hc4 : ¬k0_cond5 i = 1#1) (E : Set ℕ) (K : PUnit → sProp 𝕄) :
    iprop(held c arg1 arg2 arg3 arg4 arg5 arg6 arg7 arg8 arg9 arg10 arg11 arg12 arg13 arg14 x1 x2 x3 x4 x5 x6 x7 x8 x9 x10 x11 x12 x13 x14
        ∗ (held c arg1 arg2 arg3 arg4 arg5 arg6 arg7 arg8 arg9 arg10 arg11 arg12 arg13 arg14 x1 x2 x3 x4 x5 x6 x7 x8 x9 (dgFirst i x1 x5 x6 x7 x10 o h x12) (gFirst x4 x5 x6 x7 x11 o h) x12 (dotFirst i x1 x4 x5 x6 x7 o h x12 x13) x14 -∗ K ⟨⟩))
      ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rmsnorm_qkv_bwd_eq_skeleton]; unfold cc0_rmsnorm_qkv_bwd_skel
  simp only [k0_part1_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; swap; · iexact H10
    ipureintro; exact store_cols harg10 x10 (k0_off2_inb i hc1) ho2 (congr (congr (congrArg k0_pay5 (congr (congr (congrArg (k0_pay14 (BitVec.ofNat 32 (i 0).val)) (load_cols harg1 x1 h (k0_off1_inb i hc1) ho1)) (load_whole harg12 x12 inb_S1536x28_S1536x28_0_0)) (load_whole harg12 x12 inb_S1536x28_S1536x28_0_0))) (load_w arg5 harg5 arg6 harg6 x5 x6)) (load_whole harg7 x7 inb_S1536x4608_S1536x4608_0_0))
  isplitl [H11]
  · iexists _; isplitr; swap; · iexact H11
    ipureintro; exact store_cols harg11 x11 (k0_off1_inb i hc1) ho1 (congr (congr (congrArg k0_pay7 (load_w arg5 harg5 arg6 harg6 x5 x6)) (load_whole harg7 x7 inb_S1536x4608_S1536x4608_0_0)) (load_cols harg4 x4 h (k0_off2_inb i hc1) ho2))
  isplitl [H12]
  · iexists _; isplitr; · ipureintro; exact hf12
    iexact H12
  isplitl [H13]
  · iexists _; isplitr; swap; · iexact H13
    ipureintro; exact store_whole inb_S1536x128_S1536x128_0_0 _ (congr (congr (congr (congr (congrArg k0_pay8 (congr (congr (congrArg (k0_pay14 (BitVec.ofNat 32 (i 0).val)) (load_cols harg1 x1 h (k0_off1_inb i hc1) ho1)) (load_whole harg12 x12 inb_S1536x28_S1536x28_0_0)) (load_whole harg12 x12 inb_S1536x28_S1536x28_0_0))) (load_w arg5 harg5 arg6 harg6 x5 x6)) (load_whole harg7 x7 inb_S1536x4608_S1536x4608_0_0)) (load_cols harg4 x4 h (k0_off2_inb i hc1) ho2)) (load_whole harg13 x13 inb_S1536x128_S1536x128_0_0))
  iexists _; isplitr; · ipureintro; exact hf14
  iexact H14

end Cert.KernelIdeal.Hand

end
-- ==== Proof.RunMid.lean ====
/- The first point of the second phase: what the body leaves in its operands. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S1536x3584 .fp8e4m3) (harg1 : arg1.IsWhole) (arg2 : Memref sig .tc .vmem S1536x28 .f32) (harg2 : arg2.IsWhole)
  (arg3 : Memref sig .tc .vmem S1536x1 .f32) (harg3 : arg3.IsWhole) (arg4 : Memref sig .tc .vmem S1x3584 .f32) (harg4 : arg4.IsWhole)
  (arg5 : Memref sig .tc .vmem S256x4608 .fp8e4m3) (harg5 : arg5.IsWhole) (arg6 : Memref sig .tc .vmem S1x4608 .f32) (harg6 : arg6.IsWhole)
  (arg7 : Memref sig .tc .vmem S1536x4608 .bf16) (harg7 : arg7.IsWhole) (arg8 : Memref sig .tc .vmem S1536x256 .bf16) (harg8 : arg8.IsWhole)
  (arg9 : Memref sig .tc .vmem S256x2304 .f32) (harg9 : arg9.IsWhole) (arg10 : Memref sig .tc .vmem S1x3584 .f32) (harg10 : arg10.IsWhole)
  (arg11 : Memref sig .tc .vmem S1536x3584 .f32) (harg11 : arg11.IsWhole) (arg12 : Memref sig .tc .vmem S1536x28 .f32) (harg12 : arg12.IsWhole)
  (arg13 : Memref sig .tc .vmem S1536x128 .f32) (harg13 : arg13.IsWhole) (arg14 : Memref sig .tc .vmem S1536x256 .bf16) (harg14 : arg14.IsWhole)

variable (x1 : Vec F S1536x3584 .fp8e4m3) (x2 : Vec F S1536x28 .f32) (x3 : Vec F S1536x1 .f32) (x4 : Vec F S1x3584 .f32) (x5 : Vec F S256x4608 .fp8e4m3)
    (x6 : Vec F S1x4608 .f32) (x7 : Vec F S1536x4608 .bf16) (x8 : Vec F S1536x256 .bf16) (x9 : Vec F S256x2304 .f32) (x10 : Vec F S1x3584 .f32)
    (x11 : Vec F S1536x3584 .f32) (x12 : Vec F S1536x28 .f32) (x13 : Vec F S1536x128 .f32) (x14 : Vec F S1536x256 .bf16)

set_option maxHeartbeats 800000 in
/-- The first point of the second phase: the lane sums become the means, and the point works as the other even ones. -/
theorem run_mid (o : ℕ) (h : o + 256 ≤ 3584) (q : ℕ) (hq : q + 2304 ≤ 4608) (ho3 : k0_off3 i = ![0, o]) (ho4 : k0_off4 i = ![0, o]) (ho5 : k0_off5 i = ![0, q])
    (hc0 : ¬isFirst i) (hc1 : ¬k0_cond2 i = 1#1) (hc2 : isMid i) (hc3 : k0_cond4 i = 1#1) (hc4 : k0_cond5 i = 1#1) (E : Set ℕ) (K : PUnit → sProp 𝕄) :
    iprop(held c arg1 arg2 arg3 arg4 arg5 arg6 arg7 arg8 arg9 arg10 arg11 arg12 arg13 arg14 x1 x2 x3 x4 x5 x6 x7 x8 x9 x10 x11 x12 x13 x14
        ∗ (held c arg1 arg2 arg3 arg4 arg5 arg6 arg7 arg8 arg9 arg10 arg11 arg12 arg13 arg14 x1 x2 x3 x4 x5 x6 x7 (dxSecond i x1 x3 x11 x12 o h (k0_pay9 x13)) (dwSecond x7 q hq (xhSecond i x1 x4 x12 o h)) x10 x11 x12 (k0_pay9 x13) (xhSecond i x1 x4 x12 o h) -∗ K ⟨⟩))
      ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rmsnorm_qkv_bwd_eq_skeleton]; unfold cc0_rmsnorm_qkv_bwd_skel
  simp only [k0_part2_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; exact store_whole inb_S1536x256_S1536x256_0_0 _ (congr (congr (congr (congr (congr (congr (congrArg k0_pay12 (congrArg k0_pay16 (load_cols harg1 x1 h (k0_off3_inb i hc3) ho3))) (congr (congrArg (k0_pay17 (BitVec.ofNat 32 (i 0).val)) (load_cols harg1 x1 h (k0_off3_inb i hc3) ho3)) (load_whole harg12 x12 inb_S1536x28_S1536x28_0_0))) rfl) (load_whole harg12 x12 inb_S1536x28_S1536x28_0_0)) ((load_stored inb_S1536x128_S1536x128_0_0 inb_S1536x128_S1536x128_0_0 []).trans (congrArg k0_pay9 (load_whole harg13 x13 inb_S1536x128_S1536x128_0_0)))) (load_whole harg3 x3 inb_S1536x1_S1536x1_0_0)) (load_cols harg11 x11 h (k0_off3_inb i hc3) ho3))
  isplitl [H9]
  · iexists _; isplitr; swap; · iexact H9
    ipureintro; exact store_whole inb_S256x2304_S256x2304_0_0 _ (congr (congrArg k0_pay13 ((load_stored inb_S1536x256_S1536x256_0_0 inb_S1536x256_S1536x256_0_0 []).trans (congr (congr (congr (congr (congrArg k0_pay11 (congrArg k0_pay16 (load_cols harg1 x1 h (k0_off3_inb i hc3) ho3))) (congr (congrArg (k0_pay17 (BitVec.ofNat 32 (i 0).val)) (load_cols harg1 x1 h (k0_off3_inb i hc3) ho3)) (load_whole harg12 x12 inb_S1536x28_S1536x28_0_0))) rfl) (load_whole harg12 x12 inb_S1536x28_S1536x28_0_0)) (load_cols harg4 x4 h (k0_off4_inb i hc3) ho4)))) (load_cols harg7 x7 hq (k0_off5_inb i hc4) ho5))
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; swap; · iexact H13
    ipureintro; exact store_whole inb_S1536x128_S1536x128_0_0 _ (congrArg k0_pay9 (load_whole harg13 x13 inb_S1536x128_S1536x128_0_0))
  · iexists _; isplitr; swap; · iexact H14
    ipureintro; exact store_whole inb_S1536x256_S1536x256_0_0 _ (congr (congr (congr (congr (congrArg k0_pay11 (congrArg k0_pay16 (load_cols harg1 x1 h (k0_off3_inb i hc3) ho3))) (congr (congrArg (k0_pay17 (BitVec.ofNat 32 (i 0).val)) (load_cols harg1 x1 h (k0_off3_inb i hc3) ho3)) (load_whole harg12 x12 inb_S1536x28_S1536x28_0_0))) rfl) (load_whole harg12 x12 inb_S1536x28_S1536x28_0_0)) (load_cols harg4 x4 h (k0_off4_inb i hc3) ho4))

end Cert.KernelIdeal.Hand

end
-- ==== Proof.RunEven.lean ====
/- The even points of the second phase: what the body leaves in its operands. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S1536x3584 .fp8e4m3) (harg1 : arg1.IsWhole) (arg2 : Memref sig .tc .vmem S1536x28 .f32) (harg2 : arg2.IsWhole)
  (arg3 : Memref sig .tc .vmem S1536x1 .f32) (harg3 : arg3.IsWhole) (arg4 : Memref sig .tc .vmem S1x3584 .f32) (harg4 : arg4.IsWhole)
  (arg5 : Memref sig .tc .vmem S256x4608 .fp8e4m3) (harg5 : arg5.IsWhole) (arg6 : Memref sig .tc .vmem S1x4608 .f32) (harg6 : arg6.IsWhole)
  (arg7 : Memref sig .tc .vmem S1536x4608 .bf16) (harg7 : arg7.IsWhole) (arg8 : Memref sig .tc .vmem S1536x256 .bf16) (harg8 : arg8.IsWhole)
  (arg9 : Memref sig .tc .vmem S256x2304 .f32) (harg9 : arg9.IsWhole) (arg10 : Memref sig .tc .vmem S1x3584 .f32) (harg10 : arg10.IsWhole)
  (arg11 : Memref sig .tc .vmem S1536x3584 .f32) (harg11 : arg11.IsWhole) (arg12 : Memref sig .tc .vmem S1536x28 .f32) (harg12 : arg12.IsWhole)
  (arg13 : Memref sig .tc .vmem S1536x128 .f32) (harg13 : arg13.IsWhole) (arg14 : Memref sig .tc .vmem S1536x256 .bf16) (harg14 : arg14.IsWhole)

variable (x1 : Vec F S1536x3584 .fp8e4m3) (x2 : Vec F S1536x28 .f32) (x3 : Vec F S1536x1 .f32) (x4 : Vec F S1x3584 .f32) (x5 : Vec F S256x4608 .fp8e4m3)
    (x6 : Vec F S1x4608 .f32) (x7 : Vec F S1536x4608 .bf16) (x8 : Vec F S1536x256 .bf16) (x9 : Vec F S256x2304 .f32) (x10 : Vec F S1x3584 .f32)
    (x11 : Vec F S1536x3584 .f32) (x12 : Vec F S1536x28 .f32) (x13 : Vec F S1536x128 .f32) (x14 : Vec F S1536x256 .bf16)

set_option maxHeartbeats 800000 in
/-- An even point of the second phase after its first: the block of `dx`, the scaled normalized block, and the first half of the block of `dw` are stored. -/
theorem run_even (o : ℕ) (h : o + 256 ≤ 3584) (q : ℕ) (hq : q + 2304 ≤ 4608) (ho3 : k0_off3 i = ![0, o]) (ho4 : k0_off4 i = ![0, o]) (ho5 : k0_off5 i = ![0, q])
    (hc0 : ¬isFirst i) (hc1 : ¬k0_cond2 i = 1#1) (hc2 : ¬isMid i) (hc3 : k0_cond4 i = 1#1) (hc4 : k0_cond5 i = 1#1) (E : Set ℕ) (K : PUnit → sProp 𝕄) :
    iprop(held c arg1 arg2 arg3 arg4 arg5 arg6 arg7 arg8 arg9 arg10 arg11 arg12 arg13 arg14 x1 x2 x3 x4 x5 x6 x7 x8 x9 x10 x11 x12 x13 x14
        ∗ (held c arg1 arg2 arg3 arg4 arg5 arg6 arg7 arg8 arg9 arg10 arg11 arg12 arg13 arg14 x1 x2 x3 x4 x5 x6 x7 (dxSecond i x1 x3 x11 x12 o h x13) (dwSecond x7 q hq (xhSecond i x1 x4 x12 o h)) x10 x11 x12 x13 (xhSecond i x1 x4 x12 o h) -∗ K ⟨⟩))
      ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rmsnorm_qkv_bwd_eq_skeleton]; unfold cc0_rmsnorm_qkv_bwd_skel
  simp only [k0_part2_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; exact store_whole inb_S1536x256_S1536x256_0_0 _ (congr (congr (congr (congr (congr (congr (congrArg k0_pay12 (congrArg k0_pay16 (load_cols harg1 x1 h (k0_off3_inb i hc3) ho3))) (congr (congrArg (k0_pay17 (BitVec.ofNat 32 (i 0).val)) (load_cols harg1 x1 h (k0_off3_inb i hc3) ho3)) (load_whole harg12 x12 inb_S1536x28_S1536x28_0_0))) rfl) (load_whole harg12 x12 inb_S1536x28_S1536x28_0_0)) (load_whole harg13 x13 inb_S1536x128_S1536x128_0_0)) (load_whole harg3 x3 inb_S1536x1_S1536x1_0_0)) (load_cols harg11 x11 h (k0_off3_inb i hc3) ho3))
  isplitl [H9]
  · iexists _; isplitr; swap; · iexact H9
    ipureintro; exact store_whole inb_S256x2304_S256x2304_0_0 _ (congr (congrArg k0_pay13 ((load_stored inb_S1536x256_S1536x256_0_0 inb_S1536x256_S1536x256_0_0 []).trans (congr (congr (congr (congr (congrArg k0_pay11 (congrArg k0_pay16 (load_cols harg1 x1 h (k0_off3_inb i hc3) ho3))) (congr (congrArg (k0_pay17 (BitVec.ofNat 32 (i 0).val)) (load_cols harg1 x1 h (k0_off3_inb i hc3) ho3)) (load_whole harg12 x12 inb_S1536x28_S1536x28_0_0))) rfl) (load_whole harg12 x12 inb_S1536x28_S1536x28_0_0)) (load_cols harg4 x4 h (k0_off4_inb i hc3) ho4)))) (load_cols harg7 x7 hq (k0_off5_inb i hc4) ho5))
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  · iexists _; isplitr; swap; · iexact H14
    ipureintro; exact store_whole inb_S1536x256_S1536x256_0_0 _ (congr (congr (congr (congr (congrArg k0_pay11 (congrArg k0_pay16 (load_cols harg1 x1 h (k0_off3_inb i hc3) ho3))) (congr (congrArg (k0_pay17 (BitVec.ofNat 32 (i 0).val)) (load_cols harg1 x1 h (k0_off3_inb i hc3) ho3)) (load_whole harg12 x12 inb_S1536x28_S1536x28_0_0))) rfl) (load_whole harg12 x12 inb_S1536x28_S1536x28_0_0)) (load_cols harg4 x4 h (k0_off4_inb i hc3) ho4))

end Cert.KernelIdeal.Hand

end
-- ==== Proof.RunOdd.lean ====
/- The odd points of the second phase: what the body leaves in its operands. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S1536x3584 .fp8e4m3) (harg1 : arg1.IsWhole) (arg2 : Memref sig .tc .vmem S1536x28 .f32) (harg2 : arg2.IsWhole)
  (arg3 : Memref sig .tc .vmem S1536x1 .f32) (harg3 : arg3.IsWhole) (arg4 : Memref sig .tc .vmem S1x3584 .f32) (harg4 : arg4.IsWhole)
  (arg5 : Memref sig .tc .vmem S256x4608 .fp8e4m3) (harg5 : arg5.IsWhole) (arg6 : Memref sig .tc .vmem S1x4608 .f32) (harg6 : arg6.IsWhole)
  (arg7 : Memref sig .tc .vmem S1536x4608 .bf16) (harg7 : arg7.IsWhole) (arg8 : Memref sig .tc .vmem S1536x256 .bf16) (harg8 : arg8.IsWhole)
  (arg9 : Memref sig .tc .vmem S256x2304 .f32) (harg9 : arg9.IsWhole) (arg10 : Memref sig .tc .vmem S1x3584 .f32) (harg10 : arg10.IsWhole)
  (arg11 : Memref sig .tc .vmem S1536x3584 .f32) (harg11 : arg11.IsWhole) (arg12 : Memref sig .tc .vmem S1536x28 .f32) (harg12 : arg12.IsWhole)
  (arg13 : Memref sig .tc .vmem S1536x128 .f32) (harg13 : arg13.IsWhole) (arg14 : Memref sig .tc .vmem S1536x256 .bf16) (harg14 : arg14.IsWhole)

variable (x1 : Vec F S1536x3584 .fp8e4m3) (x2 : Vec F S1536x28 .f32) (x3 : Vec F S1536x1 .f32) (x4 : Vec F S1x3584 .f32) (x5 : Vec F S256x4608 .fp8e4m3)
    (x6 : Vec F S1x4608 .f32) (x7 : Vec F S1536x4608 .bf16) (x8 : Vec F S1536x256 .bf16) (x9 : Vec F S256x2304 .f32) (x10 : Vec F S1x3584 .f32)
    (x11 : Vec F S1536x3584 .f32) (x12 : Vec F S1536x28 .f32) (x13 : Vec F S1536x128 .f32) (x14 : Vec F S1536x256 .bf16)

set_option maxHeartbeats 800000 in
/-- An odd point of the second phase: the second half of the block of `dw` is stored. -/
theorem run_odd (q : ℕ) (hq : q + 2304 ≤ 4608) (ho5 : k0_off5 i = ![0, q])
    (hc0 : ¬isFirst i) (hc1 : ¬k0_cond2 i = 1#1) (hc2 : ¬isMid i) (hc3 : ¬k0_cond4 i = 1#1) (hc4 : k0_cond5 i = 1#1) (E : Set ℕ) (K : PUnit → sProp 𝕄) :
    iprop(held c arg1 arg2 arg3 arg4 arg5 arg6 arg7 arg8 arg9 arg10 arg11 arg12 arg13 arg14 x1 x2 x3 x4 x5 x6 x7 x8 x9 x10 x11 x12 x13 x14
        ∗ (held c arg1 arg2 arg3 arg4 arg5 arg6 arg7 arg8 arg9 arg10 arg11 arg12 arg13 arg14 x1 x2 x3 x4 x5 x6 x7 x8 (dwSecond x7 q hq x14) x10 x11 x12 x13 x14 -∗ K ⟨⟩))
      ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rmsnorm_qkv_bwd_eq_skeleton]; unfold cc0_rmsnorm_qkv_bwd_skel
  simp only [k0_part2_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; swap; · iexact H9
    ipureintro; exact store_whole inb_S256x2304_S256x2304_0_0 _ (congr (congrArg k0_pay13 (load_whole harg14 x14 inb_S1536x256_S1536x256_0_0)) (load_cols harg7 x7 hq (k0_off5_inb i hc4) ho5))
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  · iexists _; isplitr; · ipureintro; exact hf14
    iexact H14

end Cert.KernelIdeal.Hand

end
-- ==== Proof.Step.lean ====
/- One point of the kernel: from operands that the points before it left to what the point leaves. -/
module

public import proofs.«01_k».proof.Proof.State
public import proofs.«01_k».proof.Proof.RunZero
public import proofs.«01_k».proof.Proof.RunFirst
public import proofs.«01_k».proof.Proof.RunMid
public import proofs.«01_k».proof.Proof.RunEven
public import proofs.«01_k».proof.Proof.RunOdd

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (a : Ins F)

/-- The ten staging buffers at point `t` and the four scratch buffers, held. -/
abbrev heldAt (t : Fin cfg0.N) (w5 : Vec F S256x4608 .fp8e4m3) (y7 : Vec F S1536x256 .bf16) (y8 : Vec F S256x2304 .f32) (y9 : Vec F S1x3584 .f32)
    (s0 : Vec F S1536x3584 .f32) (s1 : Vec F S1536x28 .f32) (s2 : Vec F S1536x128 .f32) (s3 : Vec F S1536x256 .bf16) : sProp 𝕄 :=
  held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) sc0 sc1 sc2 sc3 a.x1 a.x2 a.x3 a.x4 w5 a.x6 a.x7 y7 y8 y9 s0 s1 s2 s3

/-- What a point makes of what it found. -/
def Stepped (t : Fin cfg0.N) (y7 z7 : Vec F S1536x256 .bf16) (y8 z8 : Vec F S256x2304 .f32) (y9 z9 : Vec F S1x3584 .f32)
    (s0 : Vec F S1536x3584 .f32) (s1 : Vec F S1536x28 .f32) (s2 : Vec F S1536x128 .f32) (s3 : Vec F S1536x256 .bf16) : Prop :=
  a.R7 t y7 z7 ∧ a.R8 t y8 z8 ∧ a.R9 t y9 z9 ∧ a.Inv (t.val + 1) s0 s1 s2 s3

variable (t : Fin cfg0.N) (w5 : Vec F S256x4608 .fp8e4m3) (y7 : Vec F S1536x256 .bf16) (y8 : Vec F S256x2304 .f32) (y9 : Vec F S1x3584 .f32)
    (s0 : Vec F S1536x3584 .f32) (s1 : Vec F S1536x28 .f32) (s2 : Vec F S1536x128 .f32) (s3 : Vec F S1536x256 .bf16)

theorem ptA_ne_ptB (j k : Fin 14) : ptA j ≠ ptB k := fun h => by have := congrArg Fin.val h; rw [ptA_val, ptB_val] at this; omega
theorem ptA_ne_ptC (j k : Fin 14) : ptA j ≠ ptC k := fun h => by have := congrArg Fin.val h; rw [ptA_val, ptC_val] at this; omega
theorem ptB_ne_ptC (j k : Fin 14) : ptB j ≠ ptC k := fun h => by have := congrArg Fin.val h; rw [ptB_val, ptC_val] at this; omega
theorem ptB_inj {j k : Fin 14} (h : ptB j = ptB k) : j = k := Fin.ext (by have := congrArg Fin.val h; rw [ptB_val, ptB_val] at this; omega)
theorem ptC_inj {j k : Fin 14} (h : ptC j = ptC k) : j = k := Fin.ext (by have := congrArg Fin.val h; rw [ptC_val, ptC_val] at this; omega)

/-- A point of the first phase, given the row factors and the lane sums that it works with. -/
theorem stepped_first (j : Fin 14) (i : grid0.Coords) (hi : i = grid0.coords (ptA j)) (s1' : Vec F S1536x28 .f32) (d : Vec F S1536x128 .f32)
    (h1 : s1' = a.sxr) (hd : d = a.dotN j.val) (hG : ∀ k : Fin 14, k.val < j.val → cols 256 (256 * k.val) (blk_le k) s0 = a.gCols k) :
    Stepped a (ptA j) y7 y7 y8 y8 y9 (dgFirst i a.x1 (a.W j) a.x6 a.x7 y9 (256 * j.val) (blk_le j) s1')
      (gFirst a.x4 (a.W j) a.x6 a.x7 s0 (256 * j.val) (blk_le j)) s1' (dotFirst i a.x1 a.x4 (a.W j) a.x6 a.x7 (256 * j.val) (blk_le j) s1' d) s3 := by
  subst hi h1 hd
  refine ⟨⟨fun k h => absurd h (ptA_ne_ptB j k), fun k h => absurd h (ptA_ne_ptC j k)⟩,
    ⟨fun k h => absurd h (ptA_ne_ptB j k), fun k h => absurd h (ptA_ne_ptC j k)⟩, fun hY => ?_, fun _ => ⟨rfl, ?_, fun _ => ?_, fun h => ?_, fun k h => ?_⟩⟩
  · exact fun k hk => blocks_step a.dgCols j y9 hY k hk
  · exact fun k hk => blocks_step a.gCols j s0 hG k hk
  · show _ = a.dotN (j.val + 1)
    rw [Ins.dotN, dif_pos j.isLt]
  · exact absurd h (by rw [ptA_val]; omega)
  · exact absurd h (by rw [ptA_val]; omega)

/-- An even point of the second phase, given the means that it works with. -/
theorem stepped_even (k : Fin 14) (i : grid0.Coords) (hi : i = grid0.coords (ptB k)) (d : Vec F S1536x128 .f32) (hd : d = a.mean) (h1 : s1 = a.sxr)
    (hG : ∀ k : Fin 14, cols 256 (256 * k.val) (blk_le k) s0 = a.gCols k) :
    Stepped a (ptB k) y7 (dxSecond i a.x1 a.x3 s0 s1 (256 * k.val) (blk_le k) d) y8
      (dwSecond a.x7 (2304 * (0 : Fin 2).val) (half_le 0) (xhSecond i a.x1 a.x4 s1 (256 * k.val) (blk_le k))) y9 y9
      s0 s1 d (xhSecond i a.x1 a.x4 s1 (256 * k.val) (blk_le k)) := by
  subst hi h1 hd
  refine ⟨⟨fun k' h => ?_, fun k' h => absurd h (ptB_ne_ptC k k')⟩, ⟨fun k' h => ?_, fun k' h => absurd h (ptB_ne_ptC k k')⟩, fun hY => ?_,
    fun _ => ⟨rfl, fun k' _ => hG k', fun h => ?_, fun _ => rfl, fun k' h => ?_⟩⟩
  · obtain rfl := ptB_inj h
    unfold dxSecond Ins.dxCols; rw [hG k]
  · obtain rfl := ptB_inj h; rfl
  · exact fun k' _ => hY k' (by rw [ptB_val]; omega)
  · exact absurd h (by rw [ptB_val]; omega)
  · obtain rfl : k = k' := Fin.ext (by rw [ptB_val] at h; omega)
    rfl

/-- An odd point of the second phase. -/
theorem stepped_odd (k : Fin 14) (hI : a.Inv (ptC k).val s0 s1 s2 s3) :
    Stepped a (ptC k) y7 y7 y8 (dwSecond a.x7 (2304 * (1 : Fin 2).val) (half_le 1) s3) y9 y9 s0 s1 s2 s3 := by
  obtain ⟨h1, h0, -, h2, h3⟩ := hI (by rw [ptC_val]; omega)
  refine ⟨⟨fun k' h => absurd h.symm (ptB_ne_ptC k' k), fun _ _ => rfl⟩, ⟨fun k' h => absurd h.symm (ptB_ne_ptC k' k), fun k' h => ?_⟩, fun hY => ?_,
    fun _ => ⟨h1, fun k' _ => h0 k' (by rw [ptC_val]; omega), fun h => ?_, fun _ => h2 (by rw [ptC_val]; omega), fun k' h => ?_⟩⟩
  · obtain rfl := ptC_inj h
    rw [h3 k (ptC_val k)]; rfl
  · exact fun k' _ => hY k' (by rw [ptC_val]; omega)
  · exact absurd h (by rw [ptC_val]; omega)
  · exact absurd h (by rw [ptC_val]; omega)

set_option maxHeartbeats 1600000 in
/-- ONE POINT: the body, on the operands that the points before `t` left, leaves what point `t` leaves. -/
theorem step (hw : ∀ j, t = ptA j → w5 = a.W j) (hI : a.Inv t.val s0 s1 s2 s3) (E : Set ℕ) (K : PUnit → sProp 𝕄) :
    iprop(heldAt c a t w5 y7 y8 y9 s0 s1 s2 s3
        ∗ ((∃ z7 z8 z9 r0 r1 r2 r3, ⌜Stepped a t y7 z7 y8 z8 y9 z9 r0 r1 r2 r3⌝ ∗ heldAt c a t w5 z7 z8 z9 r0 r1 r2 r3) -∗ K ⟨⟩))
      ⊢ wp frame (wpE (defs₀ (F := F)) Variants.none c none) E (bodyAt0 t) K := by
  have f0 := isFirst_iff t; have f2 := cond2_iff t; have f3 := isMid_iff t; have f4 := cond4_iff t; have f5 := cond5_iff t
  obtain ⟨j, hj⟩ | ⟨k, hk⟩ | ⟨k, hk⟩ := pt_cases t
  · have hv : t.val = j.val := by rw [hj]; rfl
    have e1 := (off1_eq t (by omega)).trans (by rw [hv])
    have e2 := (off2_eq t (by omega)).trans (by rw [hv])
    obtain rfl := hw j hj
    by_cases hz : t.val = 0
    · have S := stepped_first a y7 y8 y9 s0 s3 j (grid0.coords t) (by rw [hj]) a.sxr k0_pay2 rfl (by rw [← hv, hz]; rfl) (fun k h => absurd h (by omega))
      rw [← hj] at S
      iintro ⟨H, Hk⟩
      iapply (run_zero c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (Memref.isWhole_whole _) _ (Memref.isWhole_whole _) _ (Memref.isWhole_whole _) _ (Memref.isWhole_whole _)  a.x1 a.x2 a.x3 a.x4 (a.W j) a.x6 a.x7 y7 y8 y9 s0 s1 s2 s3 (256 * j.val) (blk_le j) e1 e2 (f0.mpr hz) (f2.mpr (by omega)) (fun h => absurd (f3.mp h) (by omega)) (fun h => absurd (f4.mp h) (by omega)) (fun h => absurd (f5.mp h) (by omega)) E K)
      isplitl [H]; · iexact H
      iintro H; iapply Hk
      iexists y7, y8, (dgFirst (grid0.coords t) a.x1 (a.W j) a.x6 a.x7 y9 (256 * j.val) (blk_le j) a.sxr), (gFirst a.x4 (a.W j) a.x6 a.x7 s0 (256 * j.val) (blk_le j)), a.sxr, (dotFirst (grid0.coords t) a.x1 a.x4 (a.W j) a.x6 a.x7 (256 * j.val) (blk_le j) a.sxr k0_pay2), s3
      isplitr; · ipureintro; exact S
      iexact H
    · obtain ⟨h1, h0, h2, -, -⟩ := hI hz
      have S := stepped_first a y7 y8 y9 s0 s3 j (grid0.coords t) (by rw [hj]) s1 s2 h1 (by rw [← hv]; exact h2 (by omega)) (fun k h => h0 k (by omega))
      rw [← hj] at S
      iintro ⟨H, Hk⟩
      iapply (run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (Memref.isWhole_whole _) _ (Memref.isWhole_whole _) _ (Memref.isWhole_whole _) _ (Memref.isWhole_whole _)  a.x1 a.x2 a.x3 a.x4 (a.W j) a.x6 a.x7 y7 y8 y9 s0 s1 s2 s3 (256 * j.val) (blk_le j) e1 e2 (fun h => absurd (f0.mp h) hz) (f2.mpr (by omega)) (fun h => absurd (f3.mp h) (by omega)) (fun h => absurd (f4.mp h) (by omega)) (fun h => absurd (f5.mp h) (by omega)) E K)
      isplitl [H]; · iexact H
      iintro H; iapply Hk
      iexists y7, y8, _, _, _, _, _
      isplitr; · ipureintro; exact S
      iexact H
  · have hv : t.val = 14 + 2 * k.val := by rw [hk]; rfl
    have ev : (t.val - 14) / 2 = k.val := by omega
    have e3 := (off3_eq t (by omega)).trans (by rw [ev])
    have e4 := (off4_eq t (by omega)).trans (by rw [ev])
    have e5 := (off5_eq t (by omega)).trans (show _ = ![0, 2304 * (0 : Fin 2).val] by rw [show (t.val - 14) % 2 = 0 by omega]; rfl)
    obtain ⟨h1, h0, h2, h2', -⟩ := hI (by omega)
    by_cases hz : t.val = 14
    · have S := stepped_even a y7 y8 y9 s0 s1 k (grid0.coords t) (by rw [hk]) (k0_pay9 s2) (by rw [h2 (by omega), hz]; rfl) h1 (fun k' => h0 k' (by omega))
      rw [← hk] at S
      iintro ⟨H, Hk⟩
      iapply (run_mid c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (Memref.isWhole_whole _) _ (Memref.isWhole_whole _) _ (Memref.isWhole_whole _) _ (Memref.isWhole_whole _)  a.x1 a.x2 a.x3 a.x4 w5 a.x6 a.x7 y7 y8 y9 s0 s1 s2 s3 (256 * k.val) (blk_le k) (2304 * (0 : Fin 2).val) (half_le 0) e3 e4 e5 (fun h => absurd (f0.mp h) (by omega)) (fun h => absurd (f2.mp h) (by omega)) (f3.mpr hz) (f4.mpr (by omega)) (f5.mpr (by omega)) E K)
      isplitl [H]; · iexact H
      iintro H; iapply Hk
      iexists _, _, y9, _, _, _, _
      isplitr; · ipureintro; exact S
      iexact H
    · have S := stepped_even a y7 y8 y9 s0 s1 k (grid0.coords t) (by rw [hk]) s2 (h2' (by omega)) h1 (fun k' => h0 k' (by omega))
      rw [← hk] at S
      iintro ⟨H, Hk⟩
      iapply (run_even c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (Memref.isWhole_whole _) _ (Memref.isWhole_whole _) _ (Memref.isWhole_whole _) _ (Memref.isWhole_whole _)  a.x1 a.x2 a.x3 a.x4 w5 a.x6 a.x7 y7 y8 y9 s0 s1 s2 s3 (256 * k.val) (blk_le k) (2304 * (0 : Fin 2).val) (half_le 0) e3 e4 e5 (fun h => absurd (f0.mp h) (by omega)) (fun h => absurd (f2.mp h) (by omega)) (fun h => absurd (f3.mp h) hz) (f4.mpr (by omega)) (f5.mpr (by omega)) E K)
      isplitl [H]; · iexact H
      iintro H; iapply Hk
      iexists _, _, y9, _, _, _, _
      isplitr; · ipureintro; exact S
      iexact H
  · have hv : t.val = 15 + 2 * k.val := by rw [hk]; rfl
    have e5 := (off5_eq t (by omega)).trans (show _ = ![0, 2304 * (1 : Fin 2).val] by rw [show (t.val - 14) % 2 = 1 by omega]; rfl)
    have S := stepped_odd a y7 y8 y9 s0 s1 s2 s3 k (hk ▸ hI)
    rw [← hk] at S
    iintro ⟨H, Hk⟩
    iapply (run_odd c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (Memref.isWhole_whole _) _ (Memref.isWhole_whole _) _ (Memref.isWhole_whole _) _ (Memref.isWhole_whole _)  a.x1 a.x2 a.x3 a.x4 w5 a.x6 a.x7 y7 y8 y9 s0 s1 s2 s3 (2304 * (1 : Fin 2).val) (half_le 1) e5 (fun h => absurd (f0.mp h) (by omega)) (fun h => absurd (f2.mp h) (by omega)) (fun h => absurd (f3.mp h) (by omega)) (fun h => absurd (f4.mp h) (by omega)) (f5.mpr (by omega)) E K)
    isplitl [H]; · iexact H
    iintro H; iapply Hk
    iexists y7, _, y9, _, _, _, _
    isplitr; · ipureintro; exact S
    iexact H

end Cert.KernelIdeal.Hand

end
-- ==== Proof.Data.lean ====
/- The pipeline's proof data: the inputs' buffers hold their blocks, what a point leaves in each result's buffer is related
   to what it found there, and the scratch carries the closed forms between points. -/
module

public import proofs.«01_k».proof.Proof.Step
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ptA 0

/-- The kernel's operands on core `c`. -/
def ins (c : Dev nD) : Ins F where
  x1 := iblk m c 0 t0
  x2 := iblk m c 1 t0
  x3 := iblk m c 2 t0
  x4 := iblk m c 3 t0
  W j := iblk m c 4 (ptA j)
  x6 := iblk m c 5 t0
  x7 := iblk m c 6 t0

/-- The windows over whole operands read the same block at every point. -/
theorem iblk0_eq (c : Dev nD) (t : Fin cfg0.N) : iblk m c 0 t = (ins m c).x1 := rfl
theorem iblk1_eq (c : Dev nD) (t : Fin cfg0.N) : iblk m c 1 t = (ins m c).x2 := rfl
theorem iblk2_eq (c : Dev nD) (t : Fin cfg0.N) : iblk m c 2 t = (ins m c).x3 := rfl
theorem iblk3_eq (c : Dev nD) (t : Fin cfg0.N) : iblk m c 3 t = (ins m c).x4 := rfl
theorem iblk5_eq (c : Dev nD) (t : Fin cfg0.N) : iblk m c 5 t = (ins m c).x6 := rfl
theorem iblk6_eq (c : Dev nD) (t : Fin cfg0.N) : iblk m c 6 t = (ins m c).x7 := rfl

/-- The scratch before point `n`, at contents that the points before it left, and the generator register. -/
def Phi (c : Dev nD) (n : ℕ) : sProp 𝕄 :=
  iprop((∃ s0 s1 s2 s3, ⌜(ins m c).Inv n s0 s1 s2 s3⌝ ∗ owns (c : Thread nD τ) sc0 fullShare s0 ∗ owns (c : Thread nD τ) sc1 fullShare s1
    ∗ owns (c : Thread nD τ) sc2 fullShare s2 ∗ owns (c : Thread nD τ) sc3 fullShare s3) ∗ (∃ r, prngReg c r))

/-- The scratch and the register at anything, the scratch as memrefs. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- Proof data naming the inputs' blocks. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := Phi m c t.val
  q _ := fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]

/-- The results' relations, window by window. -/
def ovr (c : Dev nD) (w : Fin cfg0.W) : Option (Fin cfg0.N → (Y X : (cfg0.win w).block.Idx → Elt F (cfg0.win w).elt) → Prop) :=
  match w with
  | ⟨7, _⟩ => some (ins m c).R7
  | ⟨8, _⟩ => some (ins m c).R8
  | ⟨9, _⟩ => some (ins m c).R9
  | _ => none

/-- The proof data: inputs named, results related. -/
def rdat (c : Dev nD) : RDat τ (Elt F) Unit ℕ (UR sig nD τ) ℕ cfg0 c := (dats m c).toR.override (ovr m c)

theorem rdat_Phi (c : Dev nD) (t) : (rdat m c).Φ t = Phi m c t.val := rfl
theorem rdat_A (c : Dev nD) (w : Fin cfg0.W) : (rdat m c).A w = V m c (Pipeline.arrRef spec0 w) := A_eq m c w

theorem after7 (c : Dev nD) : (rdat m c).after 7 = (ins m c).R7 := rfl
theorem after8 (c : Dev nD) : (rdat m c).after 8 = (ins m c).R8 := rfl
theorem after9 (c : Dev nD) : (rdat m c).after 9 = (ins m c).R9 := rfl

theorem finds_0 (c : Dev nD) (t : Fin cfg0.N) {X} (h : (rdat m c).Finds 0 t X) : X = iblk m c 0 t := by
  obtain ⟨d, hd⟩ := (dats m c).toR_finds 0 t X (((dats m c).toR.override_finds (w := 0) rfl t X).mp h)
  exact hd.trans (before0_0_of m (dats m c) (A_eq m c 0) (after0_0 m c) t d)
theorem leave_0 (c : Dev nD) (t : Fin cfg0.N) (Y) : (rdat m c).after 0 t Y (iblk m c 0 t) := by
  show (dats m c).toR.after 0 t Y (iblk m c 0 t)
  show (dats m c).Leaves 0 t (iblk m c 0 t)
  unfold Dat.Leaves
  rw [show cfg0.idle 0 (cfg0.grid.coords t) = false from rfl]
  exact (after0_0 m c t).symm
theorem finds_1 (c : Dev nD) (t : Fin cfg0.N) {X} (h : (rdat m c).Finds 1 t X) : X = iblk m c 1 t := by
  obtain ⟨d, hd⟩ := (dats m c).toR_finds 1 t X (((dats m c).toR.override_finds (w := 1) rfl t X).mp h)
  exact hd.trans (before0_1_of m (dats m c) (A_eq m c 1) (after0_1 m c) t d)
theorem leave_1 (c : Dev nD) (t : Fin cfg0.N) (Y) : (rdat m c).after 1 t Y (iblk m c 1 t) := by
  show (dats m c).toR.after 1 t Y (iblk m c 1 t)
  show (dats m c).Leaves 1 t (iblk m c 1 t)
  unfold Dat.Leaves
  rw [show cfg0.idle 1 (cfg0.grid.coords t) = false from rfl]
  exact (after0_1 m c t).symm
theorem finds_2 (c : Dev nD) (t : Fin cfg0.N) {X} (h : (rdat m c).Finds 2 t X) : X = iblk m c 2 t := by
  obtain ⟨d, hd⟩ := (dats m c).toR_finds 2 t X (((dats m c).toR.override_finds (w := 2) rfl t X).mp h)
  exact hd.trans (before0_2_of m (dats m c) (A_eq m c 2) (after0_2 m c) t d)
theorem leave_2 (c : Dev nD) (t : Fin cfg0.N) (Y) : (rdat m c).after 2 t Y (iblk m c 2 t) := by
  show (dats m c).toR.after 2 t Y (iblk m c 2 t)
  show (dats m c).Leaves 2 t (iblk m c 2 t)
  unfold Dat.Leaves
  rw [show cfg0.idle 2 (cfg0.grid.coords t) = false from rfl]
  exact (after0_2 m c t).symm
theorem finds_3 (c : Dev nD) (t : Fin cfg0.N) {X} (h : (rdat m c).Finds 3 t X) : X = iblk m c 3 t := by
  obtain ⟨d, hd⟩ := (dats m c).toR_finds 3 t X (((dats m c).toR.override_finds (w := 3) rfl t X).mp h)
  exact hd.trans (before0_3_of m (dats m c) (A_eq m c 3) (after0_3 m c) t d)
theorem leave_3 (c : Dev nD) (t : Fin cfg0.N) (Y) : (rdat m c).after 3 t Y (iblk m c 3 t) := by
  show (dats m c).toR.after 3 t Y (iblk m c 3 t)
  show (dats m c).Leaves 3 t (iblk m c 3 t)
  unfold Dat.Leaves
  rw [show cfg0.idle 3 (cfg0.grid.coords t) = false from rfl]
  exact (after0_3 m c t).symm
theorem finds_4 (c : Dev nD) (t : Fin cfg0.N) {X} (h : (rdat m c).Finds 4 t X) : X = iblk m c 4 t := by
  obtain ⟨d, hd⟩ := (dats m c).toR_finds 4 t X (((dats m c).toR.override_finds (w := 4) rfl t X).mp h)
  exact hd.trans (before0_4_of m (dats m c) (A_eq m c 4) (after0_4 m c) t d)
theorem leave_4 (c : Dev nD) (t : Fin cfg0.N) (Y) : (rdat m c).after 4 t Y (iblk m c 4 t) := by
  show (dats m c).toR.after 4 t Y (iblk m c 4 t)
  show (dats m c).Leaves 4 t (iblk m c 4 t)
  unfold Dat.Leaves
  rw [show cfg0.idle 4 (cfg0.grid.coords t) = false from rfl]
  exact (after0_4 m c t).symm
theorem finds_5 (c : Dev nD) (t : Fin cfg0.N) {X} (h : (rdat m c).Finds 5 t X) : X = iblk m c 5 t := by
  obtain ⟨d, hd⟩ := (dats m c).toR_finds 5 t X (((dats m c).toR.override_finds (w := 5) rfl t X).mp h)
  exact hd.trans (before0_5_of m (dats m c) (A_eq m c 5) (after0_5 m c) t d)
theorem leave_5 (c : Dev nD) (t : Fin cfg0.N) (Y) : (rdat m c).after 5 t Y (iblk m c 5 t) := by
  show (dats m c).toR.after 5 t Y (iblk m c 5 t)
  show (dats m c).Leaves 5 t (iblk m c 5 t)
  unfold Dat.Leaves
  rw [show cfg0.idle 5 (cfg0.grid.coords t) = false from rfl]
  exact (after0_5 m c t).symm
theorem finds_6 (c : Dev nD) (t : Fin cfg0.N) {X} (h : (rdat m c).Finds 6 t X) : X = iblk m c 6 t := by
  obtain ⟨d, hd⟩ := (dats m c).toR_finds 6 t X (((dats m c).toR.override_finds (w := 6) rfl t X).mp h)
  exact hd.trans (before0_6_of m (dats m c) (A_eq m c 6) (after0_6 m c) t d)
theorem leave_6 (c : Dev nD) (t : Fin cfg0.N) (Y) : (rdat m c).after 6 t Y (iblk m c 6 t) := by
  show (dats m c).toR.after 6 t Y (iblk m c 6 t)
  show (dats m c).Leaves 6 t (iblk m c 6 t)
  unfold Dat.Leaves
  rw [show cfg0.idle 6 (cfg0.grid.coords t) = false from rfl]
  exact (after0_6 m c t).symm

set_option maxHeartbeats 1600000 in
/-- The body's triple at a point, on buffers at contents that it may find there. -/
theorem sound_body (c : Dev nD) (t : Fin cfg0.N) (Y : (w : Fin cfg0.W) → (cfg0.win w).block.Idx → Elt F (cfg0.win w).elt) (hY : ∀ w, (rdat m c).Finds w t (Y w)) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4)
        ∗ owns (c : Thread nD τ) (st0_5 t) fullShare (Y 5)
        ∗ owns (c : Thread nD τ) (st0_6 t) fullShare (Y 6)
        ∗ owns (c : Thread nD τ) (st0_7 t) fullShare (Y 7)
        ∗ owns (c : Thread nD τ) (st0_8 t) fullShare (Y 8)
        ∗ owns (c : Thread nD τ) (st0_9 t) fullShare (Y 9))
      ⊢ wp frame (wpE (defs₀ (F := F)) Variants.none c none) Set.univ (bodyAt0 t) (fun _ => iprop((rdat m c).Φ t.succ ∗ (rdat m c).owesAt () t.succ
        ∗ (∃ X, ⌜(rdat m c).after 0 t (Y 0) X⌝ ∗ owns (c : Thread nD τ) (st0_0 t) fullShare X)
        ∗ (∃ X, ⌜(rdat m c).after 1 t (Y 1) X⌝ ∗ owns (c : Thread nD τ) (st0_1 t) fullShare X)
        ∗ (∃ X, ⌜(rdat m c).after 2 t (Y 2) X⌝ ∗ owns (c : Thread nD τ) (st0_2 t) fullShare X)
        ∗ (∃ X, ⌜(rdat m c).after 3 t (Y 3) X⌝ ∗ owns (c : Thread nD τ) (st0_3 t) fullShare X)
        ∗ (∃ X, ⌜(rdat m c).after 4 t (Y 4) X⌝ ∗ owns (c : Thread nD τ) (st0_4 t) fullShare X)
        ∗ (∃ X, ⌜(rdat m c).after 5 t (Y 5) X⌝ ∗ owns (c : Thread nD τ) (st0_5 t) fullShare X)
        ∗ (∃ X, ⌜(rdat m c).after 6 t (Y 6) X⌝ ∗ owns (c : Thread nD τ) (st0_6 t) fullShare X)
        ∗ (∃ X, ⌜(rdat m c).after 7 t (Y 7) X⌝ ∗ owns (c : Thread nD τ) (st0_7 t) fullShare X)
        ∗ (∃ X, ⌜(rdat m c).after 8 t (Y 8) X⌝ ∗ owns (c : Thread nD τ) (st0_8 t) fullShare X)
        ∗ (∃ X, ⌜(rdat m c).after 9 t (Y 9) X⌝ ∗ owns (c : Thread nD τ) (st0_9 t) fullShare X))) := by
  rw [show (rdat m c).owesAt () t.succ = (rdat m c).owesAt () t.castSucc from rfl, rdat_Phi, rdat_Phi, after7, after8, after9]
  rw [Fin.val_succ, Fin.val_castSucc]
  rw [finds_0 m c t (hY 0)]
  rw [finds_1 m c t (hY 1)]
  rw [finds_2 m c t (hY 2)]
  rw [finds_3 m c t (hY 3)]
  rw [finds_4 m c t (hY 4)]
  rw [finds_5 m c t (hY 5)]
  rw [finds_6 m c t (hY 6)]
  unfold Phi
  iintro ⟨⟨⟨%s0, %s1, %s2, %s3, %hI, S0, S1, S2, S3⟩, Hg⟩, Ho, H0, H1, H2, H3, H4, H5, H6, H7, H8, H9⟩
  iapply (step c (ins m c) t (iblk m c 4 t) (Y 7) (Y 8) (Y 9) s0 s1 s2 s3 (fun j h => by rw [h]; rfl) hI Set.univ _)
  isplitl [S0 S1 S2 S3 H0 H1 H2 H3 H4 H5 H6 H7 H8 H9]
  · unfold heldAt held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  unfold heldAt held Stepped
  iintro ⟨%z7, %z8, %z9, %r0, %r1, %r2, %r3, %hS, H0, H1, H2, H3, H4, H5, H6, H7, H8, H9, S0, S1, S2, S3⟩
  isplitl [S0 S1 S2 S3 Hg]
  · isplitr [Hg]
    · iexists r0, r1, r2, r3
      isplitr; · ipureintro; exact hS.2.2.2
      isplitl [S0]; · iexact S0
      isplitl [S1]; · iexact S1
      isplitl [S2]; · iexact S2
      iexact S3
    · iexact Hg
  isplitl [Ho]; · iexact Ho
  isplitl [H0]
  · iexists (iblk m c 0 t); isplitr; · ipureintro; exact leave_0 m c t _
    iexact H0
  isplitl [H1]
  · iexists (iblk m c 1 t); isplitr; · ipureintro; exact leave_1 m c t _
    iexact H1
  isplitl [H2]
  · iexists (iblk m c 2 t); isplitr; · ipureintro; exact leave_2 m c t _
    iexact H2
  isplitl [H3]
  · iexists (iblk m c 3 t); isplitr; · ipureintro; exact leave_3 m c t _
    iexact H3
  isplitl [H4]
  · iexists (iblk m c 4 t); isplitr; · ipureintro; exact leave_4 m c t _
    iexact H4
  isplitl [H5]
  · iexists (iblk m c 5 t); isplitr; · ipureintro; exact leave_5 m c t _
    iexact H5
  isplitl [H6]
  · iexists (iblk m c 6 t); isplitr; · ipureintro; exact leave_6 m c t _
    iexact H6
  isplitl [H7]
  · iexists z7; isplitr; · ipureintro; exact hS.1
    iexact H7
  isplitl [H8]
  · iexists z8; isplitr; · ipureintro; exact hS.2.1
    iexact H8
  iexists z9; isplitr; · ipureintro; exact hS.2.2.1
  iexact H9

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-- What the launch hands the region is the invariant before the first point. -/
theorem hin (c : Dev nD) : Pipeline.ΦA spec0 c ⊢ (rdat m c).Φ 0 := by
  rw [rdat_Phi, PhiA_eq]; unfold Phi
  iintro ⟨⟨⟨%s0, S0⟩, ⟨%s1, S1⟩, ⟨%s2, S2⟩, ⟨%s3, S3⟩⟩, Hg⟩
  isplitr [Hg]
  · iexists s0, s1, s2, s3
    isplitr; · ipureintro; exact fun h => absurd rfl h
    isplitl [S0]; · iexact S0
    isplitl [S1]; · iexact S1
    isplitl [S2]; · iexact S2
    iexact S3
  · iexact Hg

/-- The invariant after the last point gives back what the launch handed over. -/
theorem hout (c : Dev nD) : (rdat m c).Φ (Fin.last cfg0.N) ⊢ Pipeline.ΦA spec0 c := by
  rw [rdat_Phi, PhiA_eq]; unfold Phi
  iintro ⟨⟨%s0, %s1, %s2, %s3, -, S0, S1, S2, S3⟩, Hg⟩
  isplitr [Hg]
  · isplitl [S0]; · iexists s0; iexact S0
    isplitl [S1]; · iexists s1; iexact S1
    isplitl [S2]; · iexists s2; iexact S2
    iexists s3; iexact S3
  · iexact Hg

-- the launch theorem's implicit arguments are found by unifying its conclusion with this one
set_option backward.isDefEq.respectTransparency.types false in
/-- Every run ends with the arrays at contents that the proof data allow, and every semaphore at zero. -/
theorem run_main : θ_run defs (onTc (τ := τ) (main (F := F))) (s₀ m ρ)
    (fun r => Pipeline.RDat.FramePost (cfgs 0) (rdat m) (V m) r ∧ r.2.sem = (fun _ => 0)) :=
  Pipeline.RDat.θ_run_frame_track cfgs 0 launch0 defs₀ Variants.none (rdat m) m ρ main
    (hbody := body_obligation m) (hshare := fun c => (dats m c).share_full fun _ => rfl)
    (howed := fun _ _ => rfl) (V := V m) (hmain := hmain m Variants.none) (hA := rdat_A m) (hin := hin m) (hout := hout m)
    (Q' := fun r => Pipeline.RDat.FramePost (cfgs 0) (rdat m) (V m) r ∧ r.2.sem = (fun _ => 0)) (hQ' := fun _ h => h)

/-- A final state that the proof data allow has every argument array as launched. -/
theorem args_kept {r : PUnit × MemSt nD τ sig (Elt F)} (h : Pipeline.RDat.FramePost (cfgs 0) (rdat m) (V m) r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (Pipeline.RDat.FramePost.arr_in h c 4 rfl).trans ((rdat_A m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- THE FRAME: every run ends, with the argument arrays as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main m ρ)

end Cert.KernelIdeal.Hand

end
-- ==== Proof.Raw.lean ====
/- The mathematics: the three results as functions of the operands' coordinates, at the extended reals. -/
module

public import Idealize.ShloMosaic.Lib.Pointwise

@[expose] public section

noncomputable section

open Idealize.ShloMosaic Idealize.ShloMosaic.Pointwise
open scoped BigOperators

/-- The operands as functions of their coordinates. -/
structure Cert.Raw where
  x : Fin 1536 → Fin 3584 → EReal
  sc : Fin 1536 → Fin 28 → EReal
  rs : Fin 1536 → EReal
  ga : Fin 3584 → EReal
  w : Fin 3584 → Fin 4608 → EReal
  ws : Fin 4608 → EReal
  dq : Fin 1536 → Fin 4608 → EReal

namespace Cert.Raw

variable (A : Raw)

/-- The 128-column group of a column. -/
def grp (c : Fin 3584) : Fin 28 := ⟨c.val / 128, by omega⟩
/-- The normalized matrix. -/
def n (r : Fin 1536) (c : Fin 3584) : EReal := A.x r c * (A.sc r (grp c) * A.rs r)
/-- The gradient with respect to the scaled normalized matrix. -/
def h (r : Fin 1536) (c : Fin 3584) : EReal := ∑ k : Fin 4608, A.dq r k * (A.w c k * A.ws k)
/-- The terms of a row's mean. -/
def term (r : Fin 1536) (c : Fin 3584) : EReal := A.h r c * A.n r c * A.ga c
/-- A row's mean. -/
def mean (r : Fin 1536) : EReal := (∑ c : Fin 3584, A.term r c) * ((1 / 3584 : ℝ) : EReal)
/-- The gradient with respect to the input. -/
def dx (r : Fin 1536) (c : Fin 3584) : EReal := A.rs r * (A.h r c * A.ga c - A.n r c * A.mean r)
/-- The gradient with respect to the weights. -/
def dw (c : Fin 3584) (f : Fin 4608) : EReal := ∑ r : Fin 1536, A.n r c * A.ga c * A.dq r f
/-- The gradient with respect to the gain. -/
def dg (c : Fin 3584) : EReal := ∑ r : Fin 1536, A.h r c * A.n r c

end Cert.Raw

/-- The operands as the arguments have them. -/
def Cert.rawOf (a0 : Vec Ideal ⟨3, ![3, 512, 3584]⟩ .fp8e4m3) (a1 : Vec Ideal ⟨3, ![3, 512, 28]⟩ .f32) (a2 : Vec Ideal ⟨2, ![3, 512]⟩ .f32)
    (a3 : Vec Ideal ⟨1, ![3584]⟩ .f32) (a4 : Vec Ideal ⟨2, ![3584, 4608]⟩ .fp8e4m3) (a5 : Vec Ideal ⟨1, ![4608]⟩ .f32)
    (a6 : Vec Ideal ⟨3, ![3, 512, 4608]⟩ .bf16) : Cert.Raw where
  x r c := a0 (ix3 ⟨r.val / 512, by omega⟩ ⟨r.val % 512, by omega⟩ c)
  sc r b := a1 (ix3 ⟨r.val / 512, by omega⟩ ⟨r.val % 512, by omega⟩ b)
  rs r := a2 (ix2 ⟨r.val / 512, by omega⟩ ⟨r.val % 512, by omega⟩)
  ga c := a3 (ix1 c)
  w c k := a4 (ix2 c k)
  ws k := a5 (ix1 k)
  dq r k := a6 (ix3 ⟨r.val / 512, by omega⟩ ⟨r.val % 512, by omega⟩ k)

end
-- ==== Proof.Algebra.lean ====
/- The kernel's closed forms at the extended reals, element by element: each block that a point leaves is the block of one
   function of the operands, and the fourteen points' lane sums add up to the sum over all the columns. -/
module

public import proofs.«01_k».proof.Proof.State
public import proofs.«01_k».proof.Proof.Raw
public import Idealize.ShloMosaic.Lib.Pointwise

@[expose] public section

noncomputable section

open Idealize.ShloMosaic Idealize.ShloMosaic.Pointwise
open scoped BigOperators

namespace Cert.KernelIdeal.Hand

open Cert.KernelIdeal Cert.KernelIdeal.Gen

/-! ## The payloads at an index -/

theorem pay1_apply (x2 : Vec Ideal S1536x28 .f32) (x3 : Vec Ideal S1536x1 .f32) (r : Fin 1536) (b : Fin 28) :
    k0_pay1 x2 x3 (ix2 r b) = x2 (ix2 r b) * x3 (ix2 r 0) := by
  pointwise [k0_pay1]

theorem pay3_apply (u : FVec Ideal S256x4608 .bf16) (v : Vec Ideal S1536x4608 .bf16) (r : Fin 1536) (b : Fin 256) :
    k0_pay3 u v (ix2 r b) = ∑ k : Fin 4608, v (ix2 r k) * u (ix2 b k) := by
  pointwise [k0_pay3]

theorem pay5_apply (n : FVec Ideal S1536x256 .f32) (u : FVec Ideal S256x4608 .bf16) (v : Vec Ideal S1536x4608 .bf16) (b : Fin 256) :
    k0_pay5 n u v (ix2 0 b) = ∑ r : Fin 1536, k0_pay3 u v (ix2 r b) * n (ix2 r b) := by
  pointwise [k0_pay5, k0_pay4]

theorem pay7_apply (u : FVec Ideal S256x4608 .bf16) (v : Vec Ideal S1536x4608 .bf16) (g : Vec Ideal S1x256 .f32) (r : Fin 1536) (b : Fin 256) :
    k0_pay7 u v g (ix2 r b) = k0_pay3 u v (ix2 r b) * g (ix2 0 b) := by
  pointwise [k0_pay7, k0_pay6]

theorem pay8_apply (n : FVec Ideal S1536x256 .f32) (u : FVec Ideal S256x4608 .bf16) (v : Vec Ideal S1536x4608 .bf16) (g : Vec Ideal S1x256 .f32)
    (d : Vec Ideal S1536x128 .f32) (r : Fin 1536) (b : Fin 128) :
    k0_pay8 n u v g d (ix2 r b) = d (ix2 r b)
      + (k0_pay3 u v (ix2 r ⟨b.val, by omega⟩) * n (ix2 r ⟨b.val, by omega⟩) * g (ix2 0 ⟨b.val, by omega⟩)
        + k0_pay3 u v (ix2 r ⟨128 + b.val, by omega⟩) * n (ix2 r ⟨128 + b.val, by omega⟩) * g (ix2 0 ⟨128 + b.val, by omega⟩)) := by
  pointwise [k0_pay8, k0_pay4, k0_pay6]

theorem pay9_apply (d : Vec Ideal S1536x128 .f32) (r : Fin 1536) (b : Fin 128) :
    k0_pay9 d (ix2 r b) = (∑ k : Fin 128, d (ix2 r k)) * ((1 / 3584 : ℝ) : EReal) := by
  pointwise [k0_pay9]
  rfl

theorem pay13_apply (u : FVec Ideal S1536x256 .bf16) (v : Vec Ideal S1536x2304 .bf16) (r : Fin 256) (b : Fin 2304) :
    k0_pay13 u v (ix2 r b) = ∑ k : Fin 1536, u (ix2 k r) * v (ix2 k b) := by
  pointwise [k0_pay13]

theorem pay15_apply (w : Vec Ideal S256x4608 .fp8e4m3) (s : Vec Ideal S1x4608 .f32) (l : Fin 256) (k : Fin 4608) :
    k0_pay15 w s (ix2 l k) = w (ix2 l k) * s (ix2 0 k) := by
  pointwise [k0_pay15]

/-- Two lane numbers as words are equal only if they are. -/
theorem cmpi_lane : ∀ x b : Fin 28, IntOp.cmpi .eq (BitVec.ofNat 32 x.val) (BitVec.ofNat 32 b.val) = if x = b then 1#1 else 0#1 := by
  decide +kernel

/-- A sum over the lanes of which one is kept is that lane's entry. -/
theorem lane_sum (f : Fin 28 → EReal) (w : BitVec 32) (b : Fin 28) (hw : w = BitVec.ofNat 32 b.val) :
    ∑ x : Fin 28, Scalar.select (IntOp.cmpi .eq (BitVec.ofNat 32 x.val) w) (f x) 0 = f b := by
  subst hw
  rw [Finset.sum_eq_single b]
  · rw [cmpi_lane, if_pos rfl]; rfl
  · intro x _ hx; rw [cmpi_lane, if_neg hx]; rfl
  · exact fun hb => absurd (Finset.mem_univ b) hb

/-- The grid's coordinate is the point's number. -/
theorem coords_val : ∀ t : Fin cfg0.N, (grid0.coords t 0).val = t.val := by decide +kernel

theorem word14 : ∀ j : Fin 14, Scalar.addi (Scalar.muli (BitVec.ofNat 32 j.val) 2#32) 0#32 = BitVec.ofNat 32 (2 * j.val)
    ∧ Scalar.addi (Scalar.muli (BitVec.ofNat 32 j.val) 2#32) 1#32 = BitVec.ofNat 32 (2 * j.val + 1) := by decide +kernel

/-- The first phase's normalized block: each half by its own group's factor. -/
theorem pay14_apply (j : Fin 14) (x : Vec Ideal S1536x256 .fp8e4m3) (s : Vec Ideal S1536x28 .f32) (r : Fin 1536) (l : Fin 256) :
    k0_pay14 (BitVec.ofNat 32 j.val) x s s (ix2 r l) = x (ix2 r l) * s (ix2 r ⟨2 * j.val + l.val / 128, by omega⟩) := by
  pointwise [k0_pay14]
  by_cases hl : l.val < 128
  · rw [dif_pos hl, lane_sum (fun b => s (ix2 r b)) _ ⟨2 * j.val, by omega⟩ (word14 j).1]
    have e : l.val / 128 = 0 := by omega
    simp only [e, Nat.add_zero]
  · rw [dif_neg hl, lane_sum (fun b => s (ix2 r b)) _ ⟨2 * j.val + 1, by omega⟩ (word14 j).2]
    have e : l.val / 128 = 1 := by omega
    have e' : 128 + (l.val - 128) = l.val := by omega
    simp only [e, e', Fin.eta]

theorem word17 : ∀ k : Fin 14, (fun w : BitVec 32 => (Scalar.addi
              (Scalar.muli
                (Scalar.select
                  (Scalar.andi
                    (Scalar.cmpi CmpIPredicate.ne
                      (Scalar.subi (Scalar.extui (Scalar.cmpi CmpIPredicate.sgt (Scalar.subi w 14#32) 0#32))
                        (Scalar.extui (Scalar.cmpi CmpIPredicate.slt (Scalar.subi w 14#32) 0#32)))
                      (Scalar.subi (Scalar.extui (Scalar.cmpi CmpIPredicate.sgt 2#32 0#32))
                        (Scalar.extui (Scalar.cmpi CmpIPredicate.slt 2#32 0#32))))
                    (Scalar.cmpi CmpIPredicate.ne (Scalar.remsi (Scalar.subi w 14#32) 2#32) 0#32))
                  (Scalar.subi (Scalar.divsi (Scalar.subi w 14#32) 2#32) 1#32)
                  (Scalar.divsi (Scalar.subi w 14#32) 2#32))
                2#32)
              0#32)) (BitVec.ofNat 32 (14 + 2 * k.val)) = BitVec.ofNat 32 (2 * k.val) := by decide +kernel

theorem word18 : ∀ k : Fin 14, (fun w : BitVec 32 => (Scalar.addi
              (Scalar.muli
                (Scalar.select
                  (Scalar.andi
                    (Scalar.cmpi CmpIPredicate.ne
                      (Scalar.subi (Scalar.extui (Scalar.cmpi CmpIPredicate.sgt (Scalar.subi w 14#32) 0#32))
                        (Scalar.extui (Scalar.cmpi CmpIPredicate.slt (Scalar.subi w 14#32) 0#32)))
                      (Scalar.subi (Scalar.extui (Scalar.cmpi CmpIPredicate.sgt 2#32 0#32))
                        (Scalar.extui (Scalar.cmpi CmpIPredicate.slt 2#32 0#32))))
                    (Scalar.cmpi CmpIPredicate.ne (Scalar.remsi (Scalar.subi w 14#32) 2#32) 0#32))
                  (Scalar.subi (Scalar.divsi (Scalar.subi w 14#32) 2#32) 1#32)
                  (Scalar.divsi (Scalar.subi w 14#32) 2#32))
                2#32)
              1#32)) (BitVec.ofNat 32 (14 + 2 * k.val)) = BitVec.ofNat 32 (2 * k.val + 1) := by decide +kernel

/-- The second phase's normalized block: the same. -/
theorem pay10_apply (k : Fin 14) (x : Vec Ideal S1536x256 .fp8e4m3) (s : Vec Ideal S1536x28 .f32) (r : Fin 1536) (l : Fin 256) :
    k0_pay10 (k0_pay16 x) (k0_pay17 (BitVec.ofNat 32 (14 + 2 * k.val)) x s) (k0_pay18 (BitVec.ofNat 32 (14 + 2 * k.val))) s (ix2 r l)
      = x (ix2 r l) * s (ix2 r ⟨2 * k.val + l.val / 128, by omega⟩) := by
  pointwise [k0_pay10, k0_pay16, k0_pay17, k0_pay18]
  by_cases hl : l.val < 128
  · rw [dif_pos hl, lane_sum (fun b => s (ix2 r b)) _ ⟨2 * k.val, by omega⟩ (word17 k)]
    have e : l.val / 128 = 0 := by omega
    simp only [e, Nat.add_zero, Fin.eta]
  · rw [dif_neg hl, lane_sum (fun b => s (ix2 r b)) _ ⟨2 * k.val + 1, by omega⟩ (word18 k)]
    have e : l.val / 128 = 1 := by omega
    have e' : 128 + (l.val - 128) = l.val := by omega
    simp only [e, e', Fin.eta]

theorem pay11_apply (x : FVec Ideal S1536x256 .f32) (n : FVec Ideal S1536x128 .f32) (k : IVec S1536x28 1) (s : Vec Ideal S1536x28 .f32)
    (g : Vec Ideal S1x256 .f32) (r : Fin 1536) (b : Fin 256) :
    k0_pay11 x n k s g (ix2 r b) = k0_pay10 x n k s (ix2 r b) * g (ix2 0 b) := by
  pointwise [k0_pay11]

theorem pay12_apply (x : FVec Ideal S1536x256 .f32) (n : FVec Ideal S1536x128 .f32) (k : IVec S1536x28 1) (s : Vec Ideal S1536x28 .f32)
    (d : Vec Ideal S1536x128 .f32) (x3 : Vec Ideal S1536x1 .f32) (g : Vec Ideal S1536x256 .f32) (r : Fin 1536) (b : Fin 256) (v : EReal)
    (hd : ∀ l : Fin 128, d (ix2 r l) = v) :
    k0_pay12 x n k s d x3 g (ix2 r b) = x3 (ix2 r 0) * (g (ix2 r b) - k0_pay10 x n k s (ix2 r b) * v) := by
  pointwise [k0_pay12]
  simp only [hd, dite_eq_ite, ite_self]

/-- A block of columns at an index. -/
theorem cols_ix {e : EltTy} {R C : ℕ} (w o : ℕ) (h : o + w ≤ C) (X : Vec Ideal ⟨2, ![R, C]⟩ e) (r : Fin R) (l : Fin w) :
    cols w o h X (ix2 r l) = X (ix2 r ⟨o + l.val, by omega⟩) := by
  show X _ = X _
  congr 1
  funext a; apply Fin.ext
  match a with
  | ⟨0, _⟩ => show 0 + 1 * r.val = r.val; omega
  | ⟨1, _⟩ => show o + 1 * l.val = o + l.val; omega

/-! ## The blocks -/

namespace Ins

variable (a : Ins Ideal)

/-- Column `l` of block `j`. -/
def col (j : Fin 14) (l : Fin 256) : Fin 3584 := ⟨256 * j.val + l.val, by omega⟩

/-- The operands by their coordinates. -/
def raw : Raw where
  x r c := a.x1 (ix2 r c)
  sc r b := a.x2 (ix2 r b)
  rs r := a.x3 (ix2 r 0)
  ga c := a.x4 (ix2 0 c)
  w c k := a.W ⟨c.val / 256, by omega⟩ (ix2 ⟨c.val % 256, by omega⟩ k)
  ws k := a.x6 (ix2 0 k)
  dq r k := a.x7 (ix2 r k)

theorem raw_w (j : Fin 14) (l : Fin 256) (k : Fin 4608) : a.raw.w (col j l) k = a.W j (ix2 l k) := by
  have e1 : (⟨(col j l).val / 256, by omega⟩ : Fin 14) = j := Fin.ext (by show (256 * j.val + l.val) / 256 = j.val; omega)
  have e2 : (⟨(col j l).val % 256, by omega⟩ : Fin 256) = l := Fin.ext (by show (256 * j.val + l.val) % 256 = l.val; omega)
  show a.W ⟨(col j l).val / 256, _⟩ (ix2 ⟨(col j l).val % 256, _⟩ k) = _
  rw [e1, e2]

theorem grp_col (j : Fin 14) (l : Fin 256) (h) : (⟨2 * j.val + l.val / 128, h⟩ : Fin 28) = Raw.grp (col j l) :=
  Fin.ext (by show 2 * j.val + l.val / 128 = (256 * j.val + l.val) / 128; omega)

/-- The normalized block, first phase. -/
theorem n_first (j : Fin 14) (r : Fin 1536) (l : Fin 256) :
    nFirst (grid0.coords (ptA j)) a.x1 (256 * j.val) (blk_le j) a.sxr (ix2 r l) = a.raw.n r (col j l) := by
  unfold nFirst
  rw [show (grid0.coords (ptA j) 0).val = j.val from (coords_val _).trans (ptA_val j), pay14_apply, cols_ix, grp_col]
  unfold sxr
  rw [pay1_apply]; rfl

/-- The block's gradient. -/
theorem h_first (j : Fin 14) (r : Fin 1536) (l : Fin 256) : k0_pay3 (wFirst (a.W j) a.x6) a.x7 (ix2 r l) = a.raw.h r (col j l) := by
  rw [pay3_apply]
  refine Finset.sum_congr rfl fun k _ => ?_
  rw [raw_w]
  unfold wFirst
  rw [pay15_apply]; rfl

theorem gain (j : Fin 14) (l : Fin 256) : cols 256 (256 * j.val) (blk_le j) a.x4 (ix2 0 l) = a.raw.ga (col j l) := cols_ix _ _ _ _ _ _

theorem dgCols_apply (j : Fin 14) (l : Fin 256) : a.dgCols j (ix2 0 l) = a.raw.dg (col j l) := by
  unfold dgCols
  rw [pay5_apply]
  exact Finset.sum_congr rfl fun r _ => by rw [h_first, n_first]

theorem gCols_apply (j : Fin 14) (r : Fin 1536) (l : Fin 256) : a.gCols j (ix2 r l) = a.raw.h r (col j l) * a.raw.ga (col j l) := by
  unfold gCols
  rw [pay7_apply, h_first, gain]

/-- What block `j` adds to lane `b` of row `r`. -/
def lane (r : Fin 1536) (b : Fin 128) (j : Fin 14) : EReal :=
  a.raw.term r (col j ⟨b.val, by omega⟩) + a.raw.term r (col j ⟨128 + b.val, by omega⟩)

theorem dotN_apply (n : ℕ) (hn : n ≤ 14) (r : Fin 1536) (b : Fin 128) :
    a.dotN n (ix2 r b) = ∑ j : Fin n, a.lane r b ⟨j.val, by omega⟩ := by
  induction n with
  | zero => show k0_pay2 (F := Ideal) (ix2 r b) = _; pointwise [k0_pay2]; simp
  | succ n ih =>
    rw [dotN, dif_pos (by omega : n < 14)]
    unfold dotFirst
    rw [pay8_apply, ih (by omega), Fin.sum_univ_castSucc]
    congr 1
    have hj : n < 14 := by omega
    have e : ∀ l : Fin 256, k0_pay3 (wFirst (a.W ⟨n, hj⟩) a.x6) a.x7 (ix2 r l)
        * nFirst (grid0.coords (ptA ⟨n, hj⟩)) a.x1 (256 * n) (blk_le ⟨n, hj⟩) a.sxr (ix2 r l)
        * cols 256 (256 * n) (blk_le ⟨n, hj⟩) a.x4 (ix2 0 l) = a.raw.term r (col ⟨n, hj⟩ l) := fun l => by
      rw [h_first a ⟨n, hj⟩ r l]
      exact congrArg₂ (· * ·) (congrArg (_ * ·) (n_first a ⟨n, hj⟩ r l)) (gain a ⟨n, hj⟩ l)
    exact congrArg₂ (· + ·) (e _) (e _)

/-- The fourteen blocks' lane sums add up to the sum over the columns. -/
theorem dotN_sum (r : Fin 1536) : ∑ b : Fin 128, a.dotN 14 (ix2 r b) = ∑ c : Fin 3584, a.raw.term r c := by
  rw [Fin.sum_univ_tiles 14 256 rfl]
  simp only [dotN_apply a 14 le_rfl]
  rw [Finset.sum_comm]
  refine Finset.sum_congr rfl fun j _ => ?_
  rw [Fin.sum_univ_two_halves 128 128 rfl, ← Finset.sum_add_distrib]
  refine Finset.sum_congr rfl fun b _ => ?_
  unfold lane
  congr 2 <;> exact Fin.ext (by simp only [col]; omega)

theorem mean_apply (r : Fin 1536) (b : Fin 128) : a.mean (ix2 r b) = a.raw.mean r := by
  unfold mean
  rw [pay9_apply, dotN_sum]; rfl

/-- The normalized block, second phase. -/
theorem n_second (k : Fin 14) (r : Fin 1536) (l : Fin 256) :
    k0_pay10 (k0_pay16 (cols 256 (256 * k.val) (blk_le k) a.x1))
      (k0_pay17 (BitVec.ofNat 32 (grid0.coords (ptB k) 0).val) (cols 256 (256 * k.val) (blk_le k) a.x1) a.sxr)
      (k0_pay18 (BitVec.ofNat 32 (grid0.coords (ptB k) 0).val)) a.sxr (ix2 r l) = a.raw.n r (col k l) := by
  rw [show (grid0.coords (ptB k) 0).val = 14 + 2 * k.val from (coords_val _).trans (ptB_val k), pay10_apply, cols_ix, grp_col]
  unfold sxr
  rw [pay1_apply]; rfl

theorem dxCols_apply (k : Fin 14) (r : Fin 1536) (l : Fin 256) : a.dxCols k (ix2 r l) = a.raw.dx r (col k l) := by
  unfold dxCols
  rw [pay12_apply _ _ _ _ _ _ _ _ _ (a.raw.mean r) (mean_apply a r), n_second, gCols_apply]; rfl

/-- Column `f` of half `q`. -/
def feat (q : Fin 2) (f : Fin 2304) : Fin 4608 := ⟨2304 * q.val + f.val, by omega⟩

theorem xh_apply (k : Fin 14) (r : Fin 1536) (l : Fin 256) : a.xh k (ix2 r l) = a.raw.n r (col k l) * a.raw.ga (col k l) := by
  unfold xh xhSecond
  rw [pay11_apply, n_second, gain]

theorem dwBlk_apply (k : Fin 14) (q : Fin 2) (l : Fin 256) (f : Fin 2304) : a.dwBlk k q (ix2 l f) = a.raw.dw (col k l) (feat q f) := by
  unfold dwBlk dwSecond
  rw [pay13_apply]
  refine Finset.sum_congr rfl fun r _ => ?_
  rw [xh_apply, cols_ix]; rfl

end Ins

end Cert.KernelIdeal.Hand

end
-- ==== Proof.Final.lean ====
/- What the run leaves in the three results, as functions of the operands. -/
module

public import proofs.«01_k».proof.Proof.Data
public import proofs.«01_k».proof.Proof.Algebra
public import Idealize.ShloMosaic.Lib.Claim
public import Idealize.ShloMosaic.Lib.Pipeline.ValueKit

@[expose] public section

set_option maxRecDepth 16384

noncomputable section

open Idealize.ShloMosaic Idealize.ShloMosaic.TcCoe Idealize.ShloMosaic.Pointwise Idealize.SL.Sem
open Idealize.ShloMosaic.Pipeline (Dat RDat)
open scoped BigOperators

namespace Cert.KernelIdeal.Hand

open Cert.KernelIdeal Cert.KernelIdeal.Gen

variable (m : (ℓ : Loc nD τ sig) → Buf (Elt Ideal) ℓ) (c : Dev nD)

/-! ## What may be in a result's buffer when it is written back -/

theorem leaves7 (k : Fin 14) {X} (h : (rdat m c).Leaves 7 (ptC k) X) : X = (ins m c).dxCols k := by
  obtain ⟨Y, hY, hR⟩ := h
  rw [after7] at hR
  obtain rfl := hR.2 k rfl
  have ht : (ptC k).val ≠ 0 := by rw [ptC_val]; omega
  have ep : (⟨(ptC k).val - 1, Nat.lt_of_le_of_lt (Nat.sub_le _ _) (ptC k).isLt⟩ : Fin cfg0.N) = ptB k :=
    Fin.ext (by rw [ptB_val]; show (ptC k).val - 1 = _; rw [ptC_val]; omega)
  have hfe : ∀ t : Fin cfg0.N, (cfg0.win 7).fetch t = false := by decide +kernel
  have hfl : ∀ k : Fin 14, (cfg0.win 7).flush (ptB k) ≠ true := by decide +kernel
  rw [RDat.finds_of_pos _ (hfe _) ht, ep] at hY
  rcases hY with hf | ⟨Z, _, hR'⟩
  · exact absurd hf (hfl k)
  · rw [after7] at hR'
    exact hR'.1 k rfl

theorem leaves8B (k : Fin 14) {X} (h : (rdat m c).Leaves 8 (ptB k) X) : X = (ins m c).dwBlk k 0 := by
  obtain ⟨Y, _, hR⟩ := h
  rw [after8] at hR
  exact hR.1 k rfl

theorem leaves8C (k : Fin 14) {X} (h : (rdat m c).Leaves 8 (ptC k) X) : X = (ins m c).dwBlk k 1 := by
  obtain ⟨Y, _, hR⟩ := h
  rw [after8] at hR
  exact hR.2 k rfl

theorem finds9 (n : ℕ) : ∀ (hn : n < cfg0.N) {Y}, (rdat m c).Finds 9 ⟨n, hn⟩ Y → (ins m c).DgInv n Y := by
  induction n with
  | zero => exact fun _ _ _ j hj => absurd hj (Nat.not_lt_zero _)
  | succ n ih =>
    intro hn Y hY
    have hfe : ∀ t : Fin cfg0.N, (cfg0.win 9).fetch t = false := by decide +kernel
    have hfl : ∀ t : Fin cfg0.N, t.val ≠ 41 → (cfg0.win 9).flush t ≠ true := by decide +kernel
    rw [RDat.finds_of_pos _ (hfe _) (Nat.succ_ne_zero n)] at hY
    have hN : cfg0.N = 42 := rfl
    rcases hY with hf | ⟨Z, hZ, hR⟩
    · exact absurd hf (hfl _ (by show n + 1 - 1 ≠ 41; omega))
    · rw [after9] at hR
      exact hR (ih (by omega) hZ)

theorem leaves9 (t : Fin cfg0.N) (ht : t.val = 41) {X} (h : (rdat m c).Leaves 9 t X) : (ins m c).DgInv 42 X := by
  obtain ⟨Y, hY, hR⟩ := h
  rw [after9] at hR
  have := hR (finds9 m c t.val t.isLt hY)
  rwa [ht] at this

/-! ## The result arrays -/

theorem flush7 : ∀ t : Fin cfg0.N, (cfg0.win 7).flush t = true → ∃ k, t = ptC k := by decide +kernel
theorem flush8 : ∀ t : Fin cfg0.N, (cfg0.win 8).flush t = true → ∃ k, t = ptB k ∨ t = ptC k := by decide +kernel
theorem index7 : ∀ k : Fin 14, win0_7.index (ptC k) = ![0, k.val] := by decide +kernel
theorem index8B : ∀ k : Fin 14, win0_8.index (ptB k) = ![k.val, 0] := by decide +kernel
theorem index8C : ∀ k : Fin 14, win0_8.index (ptC k) = ![k.val, 1] := by decide +kernel
theorem index9 : ∀ t : Fin cfg0.N, win0_9.index t = ![0, 0] := by decide +kernel

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ j : Fin 14, win0_4.index (ptA j) = ![j.val, 0] := by decide +kernel
theorem index5 : ∀ t : Fin cfg0.N, win0_5.index t = ![0, 0] := by decide +kernel
theorem index6 : ∀ t : Fin cfg0.N, win0_6.index t = ![0, 0] := by decide +kernel

/-- A block's element of `dx` at its place in the array. -/
theorem dx_at (a : Ins Ideal) (k : Fin 14) (y : S1536x256.Idx) (i : S1536x3584.Idx) (h0 : (i 0).val = (y 0).val) (h1 : (i 1).val = 256 * k.val + (y 1).val) :
    a.dxCols k y = a.raw.dx (i 0) (i 1) := by
  have e0 : i 0 = y 0 := Fin.ext h0
  have e1 : i 1 = Ins.col k (y 1) := Fin.ext h1
  rw [e0, e1]
  exact (congrArg (a.dxCols k) (eq_ix2 y)).trans (a.dxCols_apply k (y 0) (y 1))

/-- A block's element of `dw` at its place in the array. -/
theorem dw_at (a : Ins Ideal) (k : Fin 14) (q : Fin 2) (y : S256x2304.Idx) (i : S3584x4608.Idx) (h0 : (i 0).val = 256 * k.val + (y 0).val)
    (h1 : (i 1).val = 2304 * q.val + (y 1).val) : a.dwBlk k q y = a.raw.dw (i 0) (i 1) := by
  have e0 : i 0 = Ins.col k (y 0) := Fin.ext h0
  have e1 : i 1 = Ins.feat q (y 1) := Fin.ext h1
  rw [e0, e1]
  exact (congrArg (a.dwBlk k q) (eq_ix2 y)).trans (a.dwBlk_apply k q (y 0) (y 1))

/-- An element of `dg` once every block is in place. -/
theorem dg_at (a : Ins Ideal) (X : Vec Ideal S1x3584 .f32) (hX : a.DgInv 42 X) (y i : S1x3584.Idx) (h : (i 1).val = (y 1).val) : X y = a.raw.dg (i 1) := by
  have hy : (y 1).val < 3584 := (y 1).isLt
  have hj : (y 1).val / 256 < 14 := by omega
  have hl : (y 1).val % 256 < 256 := by omega
  have e1 : i 1 = Ins.col ⟨(y 1).val / 256, hj⟩ ⟨(y 1).val % 256, hl⟩ := Fin.ext (by show (i 1).val = 256 * ((y 1).val / 256) + (y 1).val % 256; omega)
  have ey : y = ix2 (n0 := 1) (n1 := 3584) 0 ⟨256 * ((y 1).val / 256) + (y 1).val % 256, by omega⟩ := by
    have h0 : y 0 = (0 : Fin 1) := Subsingleton.elim (α := Fin 1) _ _
    exact (eq_ix2 (n0 := 1) (n1 := 3584) y).trans (congrArg₂ ix2 h0 (Fin.ext (by show (y 1).val = 256 * ((y 1).val / 256) + (y 1).val % 256; omega)))
  have e := congrFun (hX ⟨(y 1).val / 256, hj⟩ (by show (y 1).val / 256 < 42; omega)) (ix2 0 ⟨(y 1).val % 256, hl⟩)
  rw [cols_ix, a.dgCols_apply] at e
  rw [e1, ← e]
  exact congrArg X ey

variable {m c}
variable {after : (w' : Fin cfg0.W) → Fin cfg0.N → (cfg0.win w').block.Idx → Elt Ideal (cfg0.win w').elt}

theorem final7 (hL : ∀ u : Fin cfg0.N, (cfg0.win 7).flush u = true → (rdat m c).Leaves 7 u (after 7 u)) :
    ((rdat m c).withAfter after).arrAt 7 cfg0.N = fun i => (ins m c).raw.dx (i 0) (i 1) := by
  refine Dat.arrAt_eq_of_covers _ 7 _ (by decide +kernel) fun t hf y => ?_
  obtain ⟨k, rfl⟩ := flush7 t hf
  rw [RDat.withAfter_after, leaves7 m c k (hL _ hf)]
  blk_simp
  refine dx_at _ k y _ ?_ ?_
  · blk_simp [index7]
  · blk_simp [index7]; omega

theorem final8 (hL : ∀ u : Fin cfg0.N, (cfg0.win 8).flush u = true → (rdat m c).Leaves 8 u (after 8 u)) :
    ((rdat m c).withAfter after).arrAt 8 cfg0.N = fun i => (ins m c).raw.dw (i 0) (i 1) := by
  refine Dat.arrAt_eq_of_covers _ 8 _ (by decide +kernel) fun t hf y => ?_
  obtain ⟨k, rfl | rfl⟩ := flush8 t hf
  · rw [RDat.withAfter_after, leaves8B m c k (hL _ hf)]
    blk_simp
    refine dw_at _ k 0 y _ ?_ ?_
    · blk_simp [index8B]; omega
    · blk_simp [index8B]; show (y 1).val = 2304 * 0 + (y 1).val; omega
  · rw [RDat.withAfter_after, leaves8C m c k (hL _ hf)]
    blk_simp
    refine dw_at _ k 1 y _ ?_ ?_
    · blk_simp [index8C]; omega
    · blk_simp [index8C]; show 2304 + (y 1).val = 2304 * 1 + (y 1).val; omega

theorem final9 (hL : ∀ u : Fin cfg0.N, (cfg0.win 9).flush u = true → (rdat m c).Leaves 9 u (after 9 u)) :
    ((rdat m c).withAfter after).arrAt 9 cfg0.N = fun i => (ins m c).raw.dg (i 1) := by
  refine Dat.arrAt_eq_of_covers _ 9 _ (by decide +kernel) fun t hf y => ?_
  have ht : t.val = 41 := by have := (flush0_9 t).mp hf; have : t.val < 42 := t.isLt; omega
  have hI := leaves9 m c t ht (hL _ hf)
  rw [RDat.withAfter_after]
  blk_simp
  refine dg_at _ _ hI y _ ?_
  blk_simp [index9]

/-! ## The operands -/

theorem in0 (r : Fin 1536) (k : Fin 3584) : iblk m c 0 t0 (ix2 r k) = m ((c.tc : Thread nD τ).loc main_arg0) (ix3 ⟨r.val / 512, by omega⟩ ⟨r.val % 512, by omega⟩ k) := by
  have e : ((cfg0.win 0).blk t0).view.emb (ix2 r k) = ix2 r k := by
    funext a; apply Fin.ext
    match a with
    | ⟨0, _⟩ => blk_simp [index0]
    | ⟨1, _⟩ => blk_simp [index0]
  show V m c main_v0 (((cfg0.win 0).blk t0).view.emb (ix2 r k)) = _
  rw [e]
  entry_read
  pointwise
theorem in1 (r : Fin 1536) (k : Fin 28) : iblk m c 1 t0 (ix2 r k) = m ((c.tc : Thread nD τ).loc main_arg1) (ix3 ⟨r.val / 512, by omega⟩ ⟨r.val % 512, by omega⟩ k) := by
  have e : ((cfg0.win 1).blk t0).view.emb (ix2 r k) = ix2 r k := by
    funext a; apply Fin.ext
    match a with
    | ⟨0, _⟩ => blk_simp [index1]
    | ⟨1, _⟩ => blk_simp [index1]
  show V m c main_v1 (((cfg0.win 1).blk t0).view.emb (ix2 r k)) = _
  rw [e]
  entry_read
  pointwise
theorem in2 (r : Fin 1536) : iblk m c 2 t0 (ix2 r 0) = m ((c.tc : Thread nD τ).loc main_arg2) (ix2 ⟨r.val / 512, by omega⟩ ⟨r.val % 512, by omega⟩) := by
  have e : ((cfg0.win 2).blk t0).view.emb (ix2 r 0) = ix2 r 0 := by
    funext a; apply Fin.ext
    match a with
    | ⟨0, _⟩ => blk_simp [index2]
    | ⟨1, _⟩ => blk_simp [index2]
  show V m c main_v2 (((cfg0.win 2).blk t0).view.emb (ix2 r 0)) = _
  rw [e]
  entry_read
  pointwise
theorem in3 (k : Fin 3584) : iblk m c 3 t0 (ix2 0 k) = m ((c.tc : Thread nD τ).loc main_arg3) (ix1 k) := by
  have e : ((cfg0.win 3).blk t0).view.emb (ix2 0 k) = ix2 0 k := by
    funext a; apply Fin.ext
    match a with
    | ⟨0, _⟩ => blk_simp [index3]
    | ⟨1, _⟩ => blk_simp [index3]
  show V m c main_v3 (((cfg0.win 3).blk t0).view.emb (ix2 0 k)) = _
  rw [e]
  entry_read
  pointwise
theorem in5 (k : Fin 4608) : iblk m c 5 t0 (ix2 0 k) = m ((c.tc : Thread nD τ).loc main_arg5) (ix1 k) := by
  have e : ((cfg0.win 5).blk t0).view.emb (ix2 0 k) = ix2 0 k := by
    funext a; apply Fin.ext
    match a with
    | ⟨0, _⟩ => blk_simp [index5]
    | ⟨1, _⟩ => blk_simp [index5]
  show V m c main_v4 (((cfg0.win 5).blk t0).view.emb (ix2 0 k)) = _
  rw [e]
  entry_read
  pointwise
theorem in6 (r : Fin 1536) (k : Fin 4608) : iblk m c 6 t0 (ix2 r k) = m ((c.tc : Thread nD τ).loc main_arg6) (ix3 ⟨r.val / 512, by omega⟩ ⟨r.val % 512, by omega⟩ k) := by
  have e : ((cfg0.win 6).blk t0).view.emb (ix2 r k) = ix2 r k := by
    funext a; apply Fin.ext
    match a with
    | ⟨0, _⟩ => blk_simp [index6]
    | ⟨1, _⟩ => blk_simp [index6]
  show V m c main_v5 (((cfg0.win 6).blk t0).view.emb (ix2 r k)) = _
  rw [e]
  entry_read
  pointwise
theorem in4 (k : Fin 3584) (l : Fin 4608) (h : k.val / 256 < 14) (h' : k.val % 256 < 256) :
    iblk m c 4 (ptA ⟨k.val / 256, h⟩) (ix2 ⟨k.val % 256, h'⟩ l) = m ((c.tc : Thread nD τ).loc main_arg4) (ix2 k l) := by
  have e : ((cfg0.win 4).blk (ptA ⟨k.val / 256, h⟩)).view.emb (ix2 ⟨k.val % 256, h'⟩ l) = ix2 k l := by
    funext a; apply Fin.ext
    match a with
    | ⟨0, _⟩ => blk_simp [index4]; exact (by omega : k.val / 256 * 256 + k.val % 256 = k.val)
    | ⟨1, _⟩ => blk_simp [index4]
  show V m c main_arg4 (((cfg0.win 4).blk (ptA ⟨k.val / 256, h⟩)).view.emb (ix2 ⟨k.val % 256, h'⟩ l)) = _
  rw [e, V_main_arg4]

variable (m c)

/-- The arguments' coordinates. -/
abbrev argRaw : Raw := rawOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem raw_eq : (ins m c).raw = argRaw m c := by
  have e0 : (ins m c).raw.x = (argRaw m c).x := funext fun r => funext fun k => in0 r k
  have e1 : (ins m c).raw.sc = (argRaw m c).sc := funext fun r => funext fun k => in1 r k
  have e2 : (ins m c).raw.rs = (argRaw m c).rs := funext fun r => in2 r
  have e3 : (ins m c).raw.ga = (argRaw m c).ga := funext fun r => in3 r
  have e4 : (ins m c).raw.w = (argRaw m c).w := funext fun k => funext fun l => by
    have h : k.val / 256 < 14 := by omega
    have h' : k.val % 256 < 256 := by omega
    exact Eq.trans (b := (ins m c).W ⟨k.val / 256, h⟩ (ix2 ⟨k.val % 256, h'⟩ l)) rfl (in4 (m := m) (c := c) k l h h')
  have e5 : (ins m c).raw.ws = (argRaw m c).ws := funext fun k => in5 k
  have e6 : (ins m c).raw.dq = (argRaw m c).dq := funext fun r => funext fun k => in6 r k
  generalize (ins m c).raw = A at *
  generalize argRaw m c = B at *
  cases A; cases B
  simp only at e0 e1 e2 e3 e4 e5 e6
  subst e0 e1 e2 e3 e4 e5 e6
  rfl

/-- Every run ends with the three results at their functions of the arguments, and the arguments as launched. -/
theorem values (ρ : Dev nD → PrngReg) : θ_run defs (onTc (τ := τ) (main (F := Ideal))) ⟨m, fun _ => 0, ρ⟩ (fun r => ∀ c : Dev nD,
      r.2.mem ((c.tc : Thread nD τ).loc main_v6_0) = (fun i => (argRaw m c).dx (i 0) (i 1))
      ∧ r.2.mem ((c.tc : Thread nD τ).loc main_v6_1) = (fun i => (argRaw m c).dw (i 0) (i 1))
      ∧ r.2.mem ((c.tc : Thread nD τ).loc main_v6_2) = (fun i => (argRaw m c).dg (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨after, hL, hA⟩ := RDat.FramePost.exists_exact h.1 c
    rw [← raw_eq m c]
    exact ⟨(hA 7).trans (final7 (hL 7)), (hA 8).trans (final8 (hL 8)), (hA 9).trans (final9 (hL 9)), args_kept m h.1 c⟩)
    (run_main m ρ)

end Cert.KernelIdeal.Hand

end
-- ==== Proof.Ref.lean ====
/- The reference's three results, as functions of the operands. -/
module

public import proofs.«01_k».proof.Proof.Raw
public import proofs.«01_k».proof.Proof.Gen.ReferenceIdeal.Value
public import Idealize.ShloMosaic.Lib.Claim
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Pointwise Idealize.SL.Sem
open Idealize.ShloMosaic.Pipeline (Dat)
open scoped BigOperators
open Cert.ReferenceIdeal Cert.ReferenceIdeal.Gen

/-! ## The payloads at an index -/

section Pay

variable (rs : Vec Ideal S1536x1 .f32) (ga : Vec Ideal S1x3584 .f32) (dq : Vec Ideal S1536x4608 .bf16) (x : Vec Ideal S1536x3584 .fp8e4m3)
  (xs : Vec Ideal S1536x3584 .f32) (w : Vec Ideal S3584x4608 .fp8e4m3) (ws : Vec Ideal S1x4608 .f32)
  (r : Fin 1536) (j : Fin 3584) (f : Fin 4608)

theorem pay5_apply : k0_pay5 rs x xs (ix2 r j) = x (ix2 r j) * xs (ix2 r j) * rs (ix2 r 0) := by
  pointwise [k0_pay5, k0_pay2]
theorem pay6_apply : k0_pay6 rs ga dq x xs (ix2 j f) = ∑ k : Fin 1536, k0_pay5 rs x xs (ix2 k j) * ga (ix2 0 j) * dq (ix2 k f) := by
  pointwise [k0_pay6, k0_pay3, k0_pay4]
theorem pay7_apply : k0_pay7 dq w ws (ix2 r j) = ∑ k : Fin 4608, dq (ix2 r k) * (w (ix2 j k) * ws (ix2 0 k)) := by
  pointwise [k0_pay7, k0_pay4]
theorem pay8_apply : k0_pay8 rs dq x xs w ws (ix2 0 j) = ∑ k : Fin 1536, k0_pay7 dq w ws (ix2 k j) * k0_pay5 rs x xs (ix2 k j) := by
  pointwise [k0_pay8]
theorem pay9_apply : k0_pay9 ga dq w ws (ix2 r j) = k0_pay7 dq w ws (ix2 r j) * ga (ix2 0 j) := by
  pointwise [k0_pay9, k0_pay3]
theorem pay10_apply : k0_pay10 rs ga dq x xs w ws (ix2 r 0) = ∑ k : Fin 3584, k0_pay9 ga dq w ws (ix2 r k) * k0_pay5 rs x xs (ix2 r k) := by
  pointwise [k0_pay10]
theorem pay1_apply (n g : FVec Ideal S1536x3584 .f32) (s : FVec Ideal S1536x1 .f32) : k0_pay1 (k0_pay2 rs) n g s (ix2 r j)
    = rs (ix2 r 0) * (g (ix2 r j) - n (ix2 r j) * Ideal.div (s (ix2 r 0)) (Ideal.ofBits .f32 0x45600000#32)) := by
  pointwise [k0_pay1, k0_pay2]

end Pay

variable (m : (ℓ : Loc nD τ sig) → Buf (Elt Ideal) ℓ) (c : Dev nD)

/-- The one grid point. -/
abbrev t0 : Fin cfg0.N := ⟨0, by decide⟩
theorem eq_t0 (t : Fin cfg0.N) : t = t0 := Fin.ext (by have : t.val < 1 := t.isLt; show t.val = 0; omega)

/-! ## The operands -/

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel

variable {m c}

theorem in0 (r : Fin 1536) (k : Fin 3584) : iblk m c 0 t0 (ix2 r k) = m ((c.tc : Thread nD τ).loc main_arg0) (ix3 ⟨r.val / 512, by omega⟩ ⟨r.val % 512, by omega⟩ k) := by
  have e : ((cfg0.win 0).blk t0).view.emb (ix2 r k) = ix2 r k := by
    funext a; apply Fin.ext
    match a with
    | ⟨0, _⟩ => blk_simp [index0]
    | ⟨1, _⟩ => blk_simp [index0]
  show V m c main_v2 (((cfg0.win 0).blk t0).view.emb (ix2 r k)) = _
  rw [e]
  entry_read
  pointwise
theorem in1 (r : Fin 1536) (k : Fin 3584) : iblk m c 1 t0 (ix2 r k) = m ((c.tc : Thread nD τ).loc main_arg1) (ix3 ⟨r.val / 512, by omega⟩ ⟨r.val % 512, by omega⟩ (Raw.grp k)) := by
  have e : ((cfg0.win 1).blk t0).view.emb (ix2 r k) = ix2 r k := by
    funext a; apply Fin.ext
    match a with
    | ⟨0, _⟩ => blk_simp [index1]
    | ⟨1, _⟩ => blk_simp [index1]
  show V m c main_v3 (((cfg0.win 1).blk t0).view.emb (ix2 r k)) = _
  rw [e]
  entry_read
  pointwise
  rfl
theorem in2 (r : Fin 1536) : iblk m c 2 t0 (ix2 r 0) = m ((c.tc : Thread nD τ).loc main_arg2) (ix2 ⟨r.val / 512, by omega⟩ ⟨r.val % 512, by omega⟩) := by
  have e : ((cfg0.win 2).blk t0).view.emb (ix2 r 0) = ix2 r 0 := by
    funext a; apply Fin.ext
    match a with
    | ⟨0, _⟩ => blk_simp [index2]
    | ⟨1, _⟩ => blk_simp [index2]
  show V m c main_v4 (((cfg0.win 2).blk t0).view.emb (ix2 r 0)) = _
  rw [e]
  entry_read
  pointwise
theorem in3 (k : Fin 3584) : iblk m c 3 t0 (ix2 0 k) = m ((c.tc : Thread nD τ).loc main_arg3) (ix1 k) := by
  have e : ((cfg0.win 3).blk t0).view.emb (ix2 0 k) = ix2 0 k := by
    funext a; apply Fin.ext
    match a with
    | ⟨0, _⟩ => blk_simp [index3]
    | ⟨1, _⟩ => blk_simp [index3]
  show V m c main_v5 (((cfg0.win 3).blk t0).view.emb (ix2 0 k)) = _
  rw [e]
  entry_read
  pointwise
theorem in4 (k : Fin 3584) (l : Fin 4608) : iblk m c 4 t0 (ix2 k l) = m ((c.tc : Thread nD τ).loc main_arg4) (ix2 k l) := by
  have e : ((cfg0.win 4).blk t0).view.emb (ix2 k l) = ix2 k l := by
    funext a; apply Fin.ext
    match a with
    | ⟨0, _⟩ => blk_simp [index4]
    | ⟨1, _⟩ => blk_simp [index4]
  show V m c main_arg4 (((cfg0.win 4).blk t0).view.emb (ix2 k l)) = _
  rw [e]
  rw [V_main_arg4]
theorem in5 (k : Fin 4608) : iblk m c 5 t0 (ix2 0 k) = m ((c.tc : Thread nD τ).loc main_arg5) (ix1 k) := by
  have e : ((cfg0.win 5).blk t0).view.emb (ix2 0 k) = ix2 0 k := by
    funext a; apply Fin.ext
    match a with
    | ⟨0, _⟩ => blk_simp [index5]
    | ⟨1, _⟩ => blk_simp [index5]
  show V m c main_v6 (((cfg0.win 5).blk t0).view.emb (ix2 0 k)) = _
  rw [e]
  entry_read
  pointwise
theorem in6 (r : Fin 1536) (k : Fin 4608) : iblk m c 6 t0 (ix2 r k) = m ((c.tc : Thread nD τ).loc main_arg6) (ix3 ⟨r.val / 512, by omega⟩ ⟨r.val % 512, by omega⟩ k) := by
  have e : ((cfg0.win 6).blk t0).view.emb (ix2 r k) = ix2 r k := by
    funext a; apply Fin.ext
    match a with
    | ⟨0, _⟩ => blk_simp [index6]
    | ⟨1, _⟩ => blk_simp [index6]
  show V m c main_v7 (((cfg0.win 6).blk t0).view.emb (ix2 r k)) = _
  rw [e]
  entry_read
  pointwise

variable (m c)

/-- The arguments' coordinates. -/
abbrev argRaw : Raw := rawOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

variable {m c}

/-! ## The stages -/

theorem n_eq (r : Fin 1536) (j : Fin 3584) : k0_pay5 (iblk m c 2 t0) (iblk m c 0 t0) (iblk m c 1 t0) (ix2 r j) = (argRaw m c).n r j := by
  rw [pay5_apply, in0, in1, in2, mul_assoc]; rfl

theorem h_eq (r : Fin 1536) (j : Fin 3584) : k0_pay7 (iblk m c 6 t0) (iblk m c 4 t0) (iblk m c 5 t0) (ix2 r j) = (argRaw m c).h r j := by
  rw [pay7_apply]
  exact Finset.sum_congr rfl fun k _ => by rw [in6, in4, in5]; rfl

theorem g_eq (r : Fin 1536) (j : Fin 3584) :
    k0_pay9 (iblk m c 3 t0) (iblk m c 6 t0) (iblk m c 4 t0) (iblk m c 5 t0) (ix2 r j) = (argRaw m c).h r j * (argRaw m c).ga j := by
  rw [pay9_apply, h_eq, in3]; rfl

theorem s_eq (r : Fin 1536) : k0_pay10 (iblk m c 2 t0) (iblk m c 3 t0) (iblk m c 6 t0) (iblk m c 0 t0) (iblk m c 1 t0) (iblk m c 4 t0) (iblk m c 5 t0) (ix2 r 0)
    = ∑ k : Fin 3584, (argRaw m c).term r k := by
  rw [pay10_apply]
  refine Finset.sum_congr rfl fun k _ => ?_
  rw [g_eq, n_eq]
  exact mul_right_comm _ _ _

/-- The divisor's bits are the number of columns. -/
theorem bits_3584 : Ideal.ofBits .f32 0x45600000#32 = ((3584 : ℝ) : EReal) := by
  simp [Ideal.ofBits, Ideal.ieee, -EReal.coe_mul]; norm_num

theorem dx_eq (r : Fin 1536) (j : Fin 3584) :
    k0_pay1 (k0_pay2 (iblk m c 2 t0)) (k0_pay5 (iblk m c 2 t0) (iblk m c 0 t0) (iblk m c 1 t0))
      (k0_pay9 (iblk m c 3 t0) (iblk m c 6 t0) (iblk m c 4 t0) (iblk m c 5 t0))
      (k0_pay10 (iblk m c 2 t0) (iblk m c 3 t0) (iblk m c 6 t0) (iblk m c 0 t0) (iblk m c 1 t0) (iblk m c 4 t0) (iblk m c 5 t0)) (ix2 r j)
      = (argRaw m c).dx r j := by
  rw [pay1_apply, g_eq, n_eq, s_eq, in2, bits_3584, Ideal.div_coe (by norm_num)]; rfl

theorem dw_eq (j : Fin 3584) (f : Fin 4608) :
    k0_pay6 (iblk m c 2 t0) (iblk m c 3 t0) (iblk m c 6 t0) (iblk m c 0 t0) (iblk m c 1 t0) (ix2 j f) = (argRaw m c).dw j f := by
  rw [pay6_apply]
  exact Finset.sum_congr rfl fun k _ => by rw [n_eq, in3, in6]; rfl

theorem dg_eq (j : Fin 3584) :
    k0_pay8 (iblk m c 2 t0) (iblk m c 6 t0) (iblk m c 0 t0) (iblk m c 1 t0) (iblk m c 4 t0) (iblk m c 5 t0) (ix2 0 j) = (argRaw m c).dg j := by
  rw [pay8_apply]
  exact Finset.sum_congr rfl fun k _ => by rw [h_eq, n_eq]

/-! ## The result arrays -/

theorem final7 : (dats m 0 c).arrAt 7 cfg0.N = fun i => (argRaw m c).dx (i 0) (i 1) := by
  refine Dat.arrAt_eq_of_covers _ 7 _ (by decide +kernel) fun t hf y => ?_
  obtain rfl := eq_t0 t
  have e : ((cfg0.win 7).blk t0).view.emb y = y := by
    funext a; apply Fin.ext
    match a with
    | ⟨0, _⟩ => blk_simp [index7]
    | ⟨1, _⟩ => blk_simp [index7]
  rw [e, after0_7]
  blk_simp
  frame_out
  exact (congrArg _ (eq_ix2 (n0 := 1536) (n1 := 3584) y)).trans (dx_eq (y 0) (y 1))

theorem final8 : (dats m 0 c).arrAt 8 cfg0.N = fun i => (argRaw m c).dw (i 0) (i 1) := by
  refine Dat.arrAt_eq_of_covers _ 8 _ (by decide +kernel) fun t hf y => ?_
  obtain rfl := eq_t0 t
  have e : ((cfg0.win 8).blk t0).view.emb y = y := by
    funext a; apply Fin.ext
    match a with
    | ⟨0, _⟩ => blk_simp [index8]
    | ⟨1, _⟩ => blk_simp [index8]
  rw [e, after0_8]
  blk_simp
  frame_out
  exact (congrArg _ (eq_ix2 (n0 := 3584) (n1 := 4608) y)).trans (dw_eq (y 0) (y 1))

theorem final9 : (dats m 0 c).arrAt 9 cfg0.N = fun i => (argRaw m c).dg (i 1) := by
  refine Dat.arrAt_eq_of_covers _ 9 _ (by decide +kernel) fun t hf y => ?_
  obtain rfl := eq_t0 t
  have e : ((cfg0.win 9).blk t0).view.emb y = y := by
    funext a; apply Fin.ext
    match a with
    | ⟨0, _⟩ => blk_simp [index9]
    | ⟨1, _⟩ => blk_simp [index9]
  rw [e, after0_9]
  blk_simp
  frame_out
  have h0 : y 0 = (0 : Fin 1) := Subsingleton.elim (α := Fin 1) _ _
  exact (congrArg _ ((eq_ix2 (n0 := 1) (n1 := 3584) y).trans (congrArg (fun z => ix2 z (y 1)) h0))).trans (dg_eq (y 1))

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KFrame
public import proofs.«01_k».proof.Proof.Final
public import proofs.«01_k».proof.Proof.Ref
public import Idealize.ShloMosaic.Adequacy
public import Idealize.ShloMosaic.Init

@[expose] public section

noncomputable section

namespace Cert.Proof

open Idealize.ShloMosaic Idealize.SL.Sem Cert.Kernel

/-- From equal arguments the kernel and the reference leave equal results: both leave the three functions of the arguments. -/
theorem algebraic [Cert.KernelIdeal.Facts] [Cert.ReferenceIdeal.Facts] : Cert.algebraic_KernelIdeal_ReferenceIdeal := by
  intro m g m' g' _ hargs
  have e : ∀ c : Dev Cert.KernelIdeal.nD, Cert.ReferenceIdeal.Hand.argRaw m' c = Cert.KernelIdeal.Hand.argRaw m c := fun c => by
    obtain ⟨h0, h1, h2, h3, h4, h5, h6⟩ := hargs c
    simp only [Cert.ReferenceIdeal.Hand.argRaw, Cert.KernelIdeal.Hand.argRaw]
    rw [h0, h1, h2, h3, h4, h5, h6]
  refine ⟨_, _, _, Cert.KernelIdeal.Hand.values m g, ?_⟩
  refine (θ_run _ _ _).mono (fun r h c => ?_) (Cert.ReferenceIdeal.Value.run_blocks m' g')
  obtain ⟨h7, h8, h9, hk⟩ := h c
  refine ⟨h7.trans (Cert.ReferenceIdeal.Hand.final7.trans ?_), h8.trans (Cert.ReferenceIdeal.Hand.final8.trans ?_),
    h9.trans (Cert.ReferenceIdeal.Hand.final9.trans ?_), hk⟩
  · rw [e c]; rfl
  · rw [e c]; rfl
  · rw [e c]; rfl

theorem claim : Cert.Claim := ⟨Cert.Kernel.Gen.facts, Cert.KernelIdeal.Gen.facts, Cert.ReferenceIdeal.Gen.facts,
  fun m ρ _ => Cert.Kernel.KFr.frame m ρ, fun m ρ _ => Cert.KernelIdeal.Hand.frame m ρ, fun m ρ _ => Cert.ReferenceIdeal.Gen.frame m ρ,
  IdealRules.named_const.statement Cert.KernelIdeal.κ "inv_d" .f32 0x39924925#32 ((1 / 3584 : ℝ) : EReal) rfl,
  algebraic⟩

end Cert.Proof

end
